-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "scale" .f32 0x36800000#32 ((140737488355328 / 36893488147433176981 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3x512x512 : Shape := ⟨4, ![64, 3, 512, 512]⟩
abbrev S50331648 : Shape := ⟨1, ![50331648]⟩
abbrev S12288 : Shape := ⟨1, ![12288]⟩
abbrev S32768 : Shape := ⟨1, ![32768]⟩
abbrev S1024 : Shape := ⟨1, ![1024]⟩
abbrev S64 : Shape := ⟨1, ![64]⟩
abbrev S16 : Shape := ⟨1, ![16]⟩
abbrev S_ : Shape := ⟨0, ![]⟩
abbrev S64x192 : Shape := ⟨2, ![64, 192]⟩

abbrev nBuf : Table → Nat
  | .hbm => 4
  | .local .scVector .vmem => 3
  | _ => 0

abbrev bufTy : (tb : Table) → Fin (nBuf tb) → BufTy
  | .hbm, ⟨0, _⟩ => ⟨S64x3x512x512, .f32⟩
  | .hbm, ⟨1, _⟩ => ⟨S50331648, .f32⟩
  | .hbm, ⟨2, _⟩ => ⟨S12288, .f32⟩
  | .hbm, ⟨3, _⟩ => ⟨S64x192, .f32⟩
  | .local .scVector .vmem, ⟨0, _⟩ => ⟨S32768, .f32⟩
  | .local .scVector .vmem, ⟨1, _⟩ => ⟨S1024, .f32⟩
  | .local .scVector .vmem, ⟨2, _⟩ => ⟨S64, .f32⟩
  | _, _ => ⟨S64x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 54 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | _ => false

abbrev sig : RefSig :=
  ofTables nBuf rfl bufTy 4 54 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v7 : BitVec 32 := Scalar.muli v1 c6_i32
  let v8 : BitVec 32 := Scalar.addi v7 c0_i32
  let c262144_i32 : BitVec 32 := 262144#32
  let v9 : BitVec 32 := Scalar.muli v8 c262144_i32
  let v74 : BitVec 32 := Scalar.addi v9 c0_i32_1
  ![v74.toNat]
@[reducible] def k0_t1_loop : Scf.Loop 32 :=
  let c0_i32_3 : BitVec 32 := 0#32
  let c256_i32 : BitVec 32 := 256#32
  let v75 : BitVec 32 := Scalar.addi c0_i32_3 c256_i32
  let c1_i32 : BitVec 32 := 1#32
  ⟨c0_i32_3, v75, c1_i32⟩
def k0_off2 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk1 (v1338 : IVec S16 32) : Prop :=
  (∀ a x, ((![v1338] : Fin 1 → IVec S16 32) a x).toNat < S1024.size a)
theorem k0_idx1_inb : ∀ (v1338 : IVec S16 32) (k0_hw1 : k0_chk1 v1338), ∀ a x, ((![v1338] : Fin 1 → IVec S16 32) a x).toNat < S1024.size a := fun v1338 k0_hw1 => k0_hw1
def k0_off3 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk2 (v1349 : IVec S16 32) : Prop :=
  (∀ a x, ((![v1349] : Fin 1 → IVec S16 32) a x).toNat < S1024.size a)
theorem k0_idx2_inb : ∀ (v1349 : IVec S16 32) (k0_hw2 : k0_chk2 v1349), ∀ a x, ((![v1349] : Fin 1 → IVec S16 32) a x).toNat < S1024.size a := fun v1349 k0_hw2 => k0_hw2
def k0_off4 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk3 (v1360 : IVec S16 32) : Prop :=
  (∀ a x, ((![v1360] : Fin 1 → IVec S16 32) a x).toNat < S1024.size a)
theorem k0_idx3_inb : ∀ (v1360 : IVec S16 32) (k0_hw3 : k0_chk3 v1360), ∀ a x, ((![v1360] : Fin 1 → IVec S16 32) a x).toNat < S1024.size a := fun v1360 k0_hw3 => k0_hw3
def k0_off5 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk4 (v1371 : IVec S16 32) : Prop :=
  (∀ a x, ((![v1371] : Fin 1 → IVec S16 32) a x).toNat < S1024.size a)
theorem k0_idx4_inb : ∀ (v1371 : IVec S16 32) (k0_hw4 : k0_chk4 v1371), ∀ a x, ((![v1371] : Fin 1 → IVec S16 32) a x).toNat < S1024.size a := fun v1371 k0_hw4 => k0_hw4
def k0_off6 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk5 (v1382 : IVec S16 32) : Prop :=
  (∀ a x, ((![v1382] : Fin 1 → IVec S16 32) a x).toNat < S1024.size a)
theorem k0_idx5_inb : ∀ (v1382 : IVec S16 32) (k0_hw5 : k0_chk5 v1382), ∀ a x, ((![v1382] : Fin 1 → IVec S16 32) a x).toNat < S1024.size a := fun v1382 k0_hw5 => k0_hw5
def k0_off7 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk6 (v1393 : IVec S16 32) : Prop :=
  (∀ a x, ((![v1393] : Fin 1 → IVec S16 32) a x).toNat < S1024.size a)
theorem k0_idx6_inb : ∀ (v1393 : IVec S16 32) (k0_hw6 : k0_chk6 v1393), ∀ a x, ((![v1393] : Fin 1 → IVec S16 32) a x).toNat < S1024.size a := fun v1393 k0_hw6 => k0_hw6
def k0_off8 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk7 (v1404 : IVec S16 32) : Prop :=
  (∀ a x, ((![v1404] : Fin 1 → IVec S16 32) a x).toNat < S1024.size a)
theorem k0_idx7_inb : ∀ (v1404 : IVec S16 32) (k0_hw7 : k0_chk7 v1404), ∀ a x, ((![v1404] : Fin 1 → IVec S16 32) a x).toNat < S1024.size a := fun v1404 k0_hw7 => k0_hw7
def k0_off9 (k0_t1 : Fin k0_t1_loop.trips) : Fin 1 → Nat :=
  let c0_i32_3 : BitVec 32 := 0#32
  let c1_i32 : BitVec 32 := 1#32
  let arg7 : BitVec 32 := Scf.iv c0_i32_3 c1_i32 k0_t1
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk8 (v1415 : IVec S16 32) : Prop :=
  (∀ a x, ((![v1415] : Fin 1 → IVec S16 32) a x).toNat < S1024.size a)
theorem k0_idx8_inb : ∀ (v1415 : IVec S16 32) (k0_hw8 : k0_chk8 v1415), ∀ a x, ((![v1415] : Fin 1 → IVec S16 32) a x).toNat < S1024.size a := fun v1415 k0_hw8 => k0_hw8
@[reducible] def k0_t2_loop : Scf.Loop 32 :=
  let c0_i32_6 : BitVec 32 := 0#32
  let c256_i32_7 : BitVec 32 := 256#32
  let v77 : BitVec 32 := Scalar.addi c0_i32_6 c256_i32_7
  let c1_i32_8 : BitVec 32 := 1#32
  ⟨c0_i32_6, v77, c1_i32_8⟩
def k0_off10 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk9 (v1338 : IVec S16 32) : Prop :=
  (∀ a x, ((![v1338] : Fin 1 → IVec S16 32) a x).toNat < S1024.size a)
theorem k0_idx9_inb : ∀ (v1338 : IVec S16 32) (k0_hw9 : k0_chk9 v1338), ∀ a x, ((![v1338] : Fin 1 → IVec S16 32) a x).toNat < S1024.size a := fun v1338 k0_hw9 => k0_hw9
def k0_off11 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk10 (v1349 : IVec S16 32) : Prop :=
  (∀ a x, ((![v1349] : Fin 1 → IVec S16 32) a x).toNat < S1024.size a)
theorem k0_idx10_inb : ∀ (v1349 : IVec S16 32) (k0_hw10 : k0_chk10 v1349), ∀ a x, ((![v1349] : Fin 1 → IVec S16 32) a x).toNat < S1024.size a := fun v1349 k0_hw10 => k0_hw10
def k0_off12 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk11 (v1360 : IVec S16 32) : Prop :=
  (∀ a x, ((![v1360] : Fin 1 → IVec S16 32) a x).toNat < S1024.size a)
theorem k0_idx11_inb : ∀ (v1360 : IVec S16 32) (k0_hw11 : k0_chk11 v1360), ∀ a x, ((![v1360] : Fin 1 → IVec S16 32) a x).toNat < S1024.size a := fun v1360 k0_hw11 => k0_hw11
def k0_off13 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk12 (v1371 : IVec S16 32) : Prop :=
  (∀ a x, ((![v1371] : Fin 1 → IVec S16 32) a x).toNat < S1024.size a)
theorem k0_idx12_inb : ∀ (v1371 : IVec S16 32) (k0_hw12 : k0_chk12 v1371), ∀ a x, ((![v1371] : Fin 1 → IVec S16 32) a x).toNat < S1024.size a := fun v1371 k0_hw12 => k0_hw12
def k0_off14 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk13 (v1382 : IVec S16 32) : Prop :=
  (∀ a x, ((![v1382] : Fin 1 → IVec S16 32) a x).toNat < S1024.size a)
theorem k0_idx13_inb : ∀ (v1382 : IVec S16 32) (k0_hw13 : k0_chk13 v1382), ∀ a x, ((![v1382] : Fin 1 → IVec S16 32) a x).toNat < S1024.size a := fun v1382 k0_hw13 => k0_hw13
def k0_off15 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk14 (v1393 : IVec S16 32) : Prop :=
  (∀ a x, ((![v1393] : Fin 1 → IVec S16 32) a x).toNat < S1024.size a)
theorem k0_idx14_inb : ∀ (v1393 : IVec S16 32) (k0_hw14 : k0_chk14 v1393), ∀ a x, ((![v1393] : Fin 1 → IVec S16 32) a x).toNat < S1024.size a := fun v1393 k0_hw14 => k0_hw14
def k0_off16 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk15 (v1404 : IVec S16 32) : Prop :=
  (∀ a x, ((![v1404] : Fin 1 → IVec S16 32) a x).toNat < S1024.size a)
theorem k0_idx15_inb : ∀ (v1404 : IVec S16 32) (k0_hw15 : k0_chk15 v1404), ∀ a x, ((![v1404] : Fin 1 → IVec S16 32) a x).toNat < S1024.size a := fun v1404 k0_hw15 => k0_hw15
def k0_off17 (k0_t2 : Fin k0_t2_loop.trips) : Fin 1 → Nat :=
  let c0_i32_6 : BitVec 32 := 0#32
  let c1_i32_8 : BitVec 32 := 1#32
  let arg7 : BitVec 32 := Scf.iv c0_i32_6 c1_i32_8 k0_t2
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk16 (v1415 : IVec S16 32) : Prop :=
  (∀ a x, ((![v1415] : Fin 1 → IVec S16 32) a x).toNat < S1024.size a)
theorem k0_idx16_inb : ∀ (v1415 : IVec S16 32) (k0_hw16 : k0_chk16 v1415), ∀ a x, ((![v1415] : Fin 1 → IVec S16 32) a x).toNat < S1024.size a := fun v1415 k0_hw16 => k0_hw16
@[reducible] def k0_t3_loop : Scf.Loop 32 :=
  let c0_i32_11 : BitVec 32 := 0#32
  let c256_i32_12 : BitVec 32 := 256#32
  let v79 : BitVec 32 := Scalar.addi c0_i32_11 c256_i32_12
  let c1_i32_13 : BitVec 32 := 1#32
  ⟨c0_i32_11, v79, c1_i32_13⟩
def k0_off18 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk17 (v1338 : IVec S16 32) : Prop :=
  (∀ a x, ((![v1338] : Fin 1 → IVec S16 32) a x).toNat < S1024.size a)
theorem k0_idx17_inb : ∀ (v1338 : IVec S16 32) (k0_hw17 : k0_chk17 v1338), ∀ a x, ((![v1338] : Fin 1 → IVec S16 32) a x).toNat < S1024.size a := fun v1338 k0_hw17 => k0_hw17
def k0_off19 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk18 (v1349 : IVec S16 32) : Prop :=
  (∀ a x, ((![v1349] : Fin 1 → IVec S16 32) a x).toNat < S1024.size a)
theorem k0_idx18_inb : ∀ (v1349 : IVec S16 32) (k0_hw18 : k0_chk18 v1349), ∀ a x, ((![v1349] : Fin 1 → IVec S16 32) a x).toNat < S1024.size a := fun v1349 k0_hw18 => k0_hw18
def k0_off20 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk19 (v1360 : IVec S16 32) : Prop :=
  (∀ a x, ((![v1360] : Fin 1 → IVec S16 32) a x).toNat < S1024.size a)
theorem k0_idx19_inb : ∀ (v1360 : IVec S16 32) (k0_hw19 : k0_chk19 v1360), ∀ a x, ((![v1360] : Fin 1 → IVec S16 32) a x).toNat < S1024.size a := fun v1360 k0_hw19 => k0_hw19
def k0_off21 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk20 (v1371 : IVec S16 32) : Prop :=
  (∀ a x, ((![v1371] : Fin 1 → IVec S16 32) a x).toNat < S1024.size a)
theorem k0_idx20_inb : ∀ (v1371 : IVec S16 32) (k0_hw20 : k0_chk20 v1371), ∀ a x, ((![v1371] : Fin 1 → IVec S16 32) a x).toNat < S1024.size a := fun v1371 k0_hw20 => k0_hw20
def k0_off22 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk21 (v1382 : IVec S16 32) : Prop :=
  (∀ a x, ((![v1382] : Fin 1 → IVec S16 32) a x).toNat < S1024.size a)
theorem k0_idx21_inb : ∀ (v1382 : IVec S16 32) (k0_hw21 : k0_chk21 v1382), ∀ a x, ((![v1382] : Fin 1 → IVec S16 32) a x).toNat < S1024.size a := fun v1382 k0_hw21 => k0_hw21
def k0_off23 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk22 (v1393 : IVec S16 32) : Prop :=
  (∀ a x, ((![v1393] : Fin 1 → IVec S16 32) a x).toNat < S1024.size a)
theorem k0_idx22_inb : ∀ (v1393 : IVec S16 32) (k0_hw22 : k0_chk22 v1393), ∀ a x, ((![v1393] : Fin 1 → IVec S16 32) a x).toNat < S1024.size a := fun v1393 k0_hw22 => k0_hw22
def k0_off24 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk23 (v1404 : IVec S16 32) : Prop :=
  (∀ a x, ((![v1404] : Fin 1 → IVec S16 32) a x).toNat < S1024.size a)
theorem k0_idx23_inb : ∀ (v1404 : IVec S16 32) (k0_hw23 : k0_chk23 v1404), ∀ a x, ((![v1404] : Fin 1 → IVec S16 32) a x).toNat < S1024.size a := fun v1404 k0_hw23 => k0_hw23
def k0_off25 (k0_t3 : Fin k0_t3_loop.trips) : Fin 1 → Nat :=
  let c0_i32_11 : BitVec 32 := 0#32
  let c1_i32_13 : BitVec 32 := 1#32
  let arg7 : BitVec 32 := Scf.iv c0_i32_11 c1_i32_13 k0_t3
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk24 (v1415 : IVec S16 32) : Prop :=
  (∀ a x, ((![v1415] : Fin 1 → IVec S16 32) a x).toNat < S1024.size a)
theorem k0_idx24_inb : ∀ (v1415 : IVec S16 32) (k0_hw24 : k0_chk24 v1415), ∀ a x, ((![v1415] : Fin 1 → IVec S16 32) a x).toNat < S1024.size a := fun v1415 k0_hw24 => k0_hw24
@[reducible] def k0_t4_loop : Scf.Loop 32 :=
  let c0_i32_16 : BitVec 32 := 0#32
  let c256_i32_17 : BitVec 32 := 256#32
  let v81 : BitVec 32 := Scalar.addi c0_i32_16 c256_i32_17
  let c1_i32_18 : BitVec 32 := 1#32
  ⟨c0_i32_16, v81, c1_i32_18⟩
def k0_off26 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk25 (v1338 : IVec S16 32) : Prop :=
  (∀ a x, ((![v1338] : Fin 1 → IVec S16 32) a x).toNat < S1024.size a)
theorem k0_idx25_inb : ∀ (v1338 : IVec S16 32) (k0_hw25 : k0_chk25 v1338), ∀ a x, ((![v1338] : Fin 1 → IVec S16 32) a x).toNat < S1024.size a := fun v1338 k0_hw25 => k0_hw25
def k0_off27 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk26 (v1349 : IVec S16 32) : Prop :=
  (∀ a x, ((![v1349] : Fin 1 → IVec S16 32) a x).toNat < S1024.size a)
theorem k0_idx26_inb : ∀ (v1349 : IVec S16 32) (k0_hw26 : k0_chk26 v1349), ∀ a x, ((![v1349] : Fin 1 → IVec S16 32) a x).toNat < S1024.size a := fun v1349 k0_hw26 => k0_hw26
def k0_off28 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk27 (v1360 : IVec S16 32) : Prop :=
  (∀ a x, ((![v1360] : Fin 1 → IVec S16 32) a x).toNat < S1024.size a)
theorem k0_idx27_inb : ∀ (v1360 : IVec S16 32) (k0_hw27 : k0_chk27 v1360), ∀ a x, ((![v1360] : Fin 1 → IVec S16 32) a x).toNat < S1024.size a := fun v1360 k0_hw27 => k0_hw27
def k0_off29 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk28 (v1371 : IVec S16 32) : Prop :=
  (∀ a x, ((![v1371] : Fin 1 → IVec S16 32) a x).toNat < S1024.size a)
theorem k0_idx28_inb : ∀ (v1371 : IVec S16 32) (k0_hw28 : k0_chk28 v1371), ∀ a x, ((![v1371] : Fin 1 → IVec S16 32) a x).toNat < S1024.size a := fun v1371 k0_hw28 => k0_hw28
def k0_off30 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk29 (v1382 : IVec S16 32) : Prop :=
  (∀ a x, ((![v1382] : Fin 1 → IVec S16 32) a x).toNat < S1024.size a)
theorem k0_idx29_inb : ∀ (v1382 : IVec S16 32) (k0_hw29 : k0_chk29 v1382), ∀ a x, ((![v1382] : Fin 1 → IVec S16 32) a x).toNat < S1024.size a := fun v1382 k0_hw29 => k0_hw29
def k0_off31 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk30 (v1393 : IVec S16 32) : Prop :=
  (∀ a x, ((![v1393] : Fin 1 → IVec S16 32) a x).toNat < S1024.size a)
theorem k0_idx30_inb : ∀ (v1393 : IVec S16 32) (k0_hw30 : k0_chk30 v1393), ∀ a x, ((![v1393] : Fin 1 → IVec S16 32) a x).toNat < S1024.size a := fun v1393 k0_hw30 => k0_hw30
def k0_off32 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk31 (v1404 : IVec S16 32) : Prop :=
  (∀ a x, ((![v1404] : Fin 1 → IVec S16 32) a x).toNat < S1024.size a)
theorem k0_idx31_inb : ∀ (v1404 : IVec S16 32) (k0_hw31 : k0_chk31 v1404), ∀ a x, ((![v1404] : Fin 1 → IVec S16 32) a x).toNat < S1024.size a := fun v1404 k0_hw31 => k0_hw31
def k0_off33 (k0_t4 : Fin k0_t4_loop.trips) : Fin 1 → Nat :=
  let c0_i32_16 : BitVec 32 := 0#32
  let c1_i32_18 : BitVec 32 := 1#32
  let arg7 : BitVec 32 := Scf.iv c0_i32_16 c1_i32_18 k0_t4
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk32 (v1415 : IVec S16 32) : Prop :=
  (∀ a x, ((![v1415] : Fin 1 → IVec S16 32) a x).toNat < S1024.size a)
theorem k0_idx32_inb : ∀ (v1415 : IVec S16 32) (k0_hw32 : k0_chk32 v1415), ∀ a x, ((![v1415] : Fin 1 → IVec S16 32) a x).toNat < S1024.size a := fun v1415 k0_hw32 => k0_hw32
@[reducible] def k0_t5_loop : Scf.Loop 32 :=
  let c0_i32_21 : BitVec 32 := 0#32
  let c256_i32_22 : BitVec 32 := 256#32
  let v83 : BitVec 32 := Scalar.addi c0_i32_21 c256_i32_22
  let c1_i32_23 : BitVec 32 := 1#32
  ⟨c0_i32_21, v83, c1_i32_23⟩
def k0_off34 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk33 (v1338 : IVec S16 32) : Prop :=
  (∀ a x, ((![v1338] : Fin 1 → IVec S16 32) a x).toNat < S1024.size a)
theorem k0_idx33_inb : ∀ (v1338 : IVec S16 32) (k0_hw33 : k0_chk33 v1338), ∀ a x, ((![v1338] : Fin 1 → IVec S16 32) a x).toNat < S1024.size a := fun v1338 k0_hw33 => k0_hw33
def k0_off35 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk34 (v1349 : IVec S16 32) : Prop :=
  (∀ a x, ((![v1349] : Fin 1 → IVec S16 32) a x).toNat < S1024.size a)
theorem k0_idx34_inb : ∀ (v1349 : IVec S16 32) (k0_hw34 : k0_chk34 v1349), ∀ a x, ((![v1349] : Fin 1 → IVec S16 32) a x).toNat < S1024.size a := fun v1349 k0_hw34 => k0_hw34
def k0_off36 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk35 (v1360 : IVec S16 32) : Prop :=
  (∀ a x, ((![v1360] : Fin 1 → IVec S16 32) a x).toNat < S1024.size a)
theorem k0_idx35_inb : ∀ (v1360 : IVec S16 32) (k0_hw35 : k0_chk35 v1360), ∀ a x, ((![v1360] : Fin 1 → IVec S16 32) a x).toNat < S1024.size a := fun v1360 k0_hw35 => k0_hw35
def k0_off37 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk36 (v1371 : IVec S16 32) : Prop :=
  (∀ a x, ((![v1371] : Fin 1 → IVec S16 32) a x).toNat < S1024.size a)
theorem k0_idx36_inb : ∀ (v1371 : IVec S16 32) (k0_hw36 : k0_chk36 v1371), ∀ a x, ((![v1371] : Fin 1 → IVec S16 32) a x).toNat < S1024.size a := fun v1371 k0_hw36 => k0_hw36
def k0_off38 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk37 (v1382 : IVec S16 32) : Prop :=
  (∀ a x, ((![v1382] : Fin 1 → IVec S16 32) a x).toNat < S1024.size a)
theorem k0_idx37_inb : ∀ (v1382 : IVec S16 32) (k0_hw37 : k0_chk37 v1382), ∀ a x, ((![v1382] : Fin 1 → IVec S16 32) a x).toNat < S1024.size a := fun v1382 k0_hw37 => k0_hw37
def k0_off39 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk38 (v1393 : IVec S16 32) : Prop :=
  (∀ a x, ((![v1393] : Fin 1 → IVec S16 32) a x).toNat < S1024.size a)
theorem k0_idx38_inb : ∀ (v1393 : IVec S16 32) (k0_hw38 : k0_chk38 v1393), ∀ a x, ((![v1393] : Fin 1 → IVec S16 32) a x).toNat < S1024.size a := fun v1393 k0_hw38 => k0_hw38
def k0_off40 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk39 (v1404 : IVec S16 32) : Prop :=
  (∀ a x, ((![v1404] : Fin 1 → IVec S16 32) a x).toNat < S1024.size a)
theorem k0_idx39_inb : ∀ (v1404 : IVec S16 32) (k0_hw39 : k0_chk39 v1404), ∀ a x, ((![v1404] : Fin 1 → IVec S16 32) a x).toNat < S1024.size a := fun v1404 k0_hw39 => k0_hw39
def k0_off41 (k0_t5 : Fin k0_t5_loop.trips) : Fin 1 → Nat :=
  let c0_i32_21 : BitVec 32 := 0#32
  let c1_i32_23 : BitVec 32 := 1#32
  let arg7 : BitVec 32 := Scf.iv c0_i32_21 c1_i32_23 k0_t5
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk40 (v1415 : IVec S16 32) : Prop :=
  (∀ a x, ((![v1415] : Fin 1 → IVec S16 32) a x).toNat < S1024.size a)
theorem k0_idx40_inb : ∀ (v1415 : IVec S16 32) (k0_hw40 : k0_chk40 v1415), ∀ a x, ((![v1415] : Fin 1 → IVec S16 32) a x).toNat < S1024.size a := fun v1415 k0_hw40 => k0_hw40
@[reducible] def k0_t6_loop : Scf.Loop 32 :=
  let c0_i32_26 : BitVec 32 := 0#32
  let c256_i32_27 : BitVec 32 := 256#32
  let v85 : BitVec 32 := Scalar.addi c0_i32_26 c256_i32_27
  let c1_i32_28 : BitVec 32 := 1#32
  ⟨c0_i32_26, v85, c1_i32_28⟩
def k0_off42 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk41 (v1338 : IVec S16 32) : Prop :=
  (∀ a x, ((![v1338] : Fin 1 → IVec S16 32) a x).toNat < S1024.size a)
theorem k0_idx41_inb : ∀ (v1338 : IVec S16 32) (k0_hw41 : k0_chk41 v1338), ∀ a x, ((![v1338] : Fin 1 → IVec S16 32) a x).toNat < S1024.size a := fun v1338 k0_hw41 => k0_hw41
def k0_off43 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk42 (v1349 : IVec S16 32) : Prop :=
  (∀ a x, ((![v1349] : Fin 1 → IVec S16 32) a x).toNat < S1024.size a)
theorem k0_idx42_inb : ∀ (v1349 : IVec S16 32) (k0_hw42 : k0_chk42 v1349), ∀ a x, ((![v1349] : Fin 1 → IVec S16 32) a x).toNat < S1024.size a := fun v1349 k0_hw42 => k0_hw42
def k0_off44 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk43 (v1360 : IVec S16 32) : Prop :=
  (∀ a x, ((![v1360] : Fin 1 → IVec S16 32) a x).toNat < S1024.size a)
theorem k0_idx43_inb : ∀ (v1360 : IVec S16 32) (k0_hw43 : k0_chk43 v1360), ∀ a x, ((![v1360] : Fin 1 → IVec S16 32) a x).toNat < S1024.size a := fun v1360 k0_hw43 => k0_hw43
def k0_off45 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk44 (v1371 : IVec S16 32) : Prop :=
  (∀ a x, ((![v1371] : Fin 1 → IVec S16 32) a x).toNat < S1024.size a)
theorem k0_idx44_inb : ∀ (v1371 : IVec S16 32) (k0_hw44 : k0_chk44 v1371), ∀ a x, ((![v1371] : Fin 1 → IVec S16 32) a x).toNat < S1024.size a := fun v1371 k0_hw44 => k0_hw44
def k0_off46 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk45 (v1382 : IVec S16 32) : Prop :=
  (∀ a x, ((![v1382] : Fin 1 → IVec S16 32) a x).toNat < S1024.size a)
theorem k0_idx45_inb : ∀ (v1382 : IVec S16 32) (k0_hw45 : k0_chk45 v1382), ∀ a x, ((![v1382] : Fin 1 → IVec S16 32) a x).toNat < S1024.size a := fun v1382 k0_hw45 => k0_hw45
def k0_off47 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk46 (v1393 : IVec S16 32) : Prop :=
  (∀ a x, ((![v1393] : Fin 1 → IVec S16 32) a x).toNat < S1024.size a)
theorem k0_idx46_inb : ∀ (v1393 : IVec S16 32) (k0_hw46 : k0_chk46 v1393), ∀ a x, ((![v1393] : Fin 1 → IVec S16 32) a x).toNat < S1024.size a := fun v1393 k0_hw46 => k0_hw46
def k0_off48 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk47 (v1404 : IVec S16 32) : Prop :=
  (∀ a x, ((![v1404] : Fin 1 → IVec S16 32) a x).toNat < S1024.size a)
theorem k0_idx47_inb : ∀ (v1404 : IVec S16 32) (k0_hw47 : k0_chk47 v1404), ∀ a x, ((![v1404] : Fin 1 → IVec S16 32) a x).toNat < S1024.size a := fun v1404 k0_hw47 => k0_hw47
def k0_off49 (k0_t6 : Fin k0_t6_loop.trips) : Fin 1 → Nat :=
  let c0_i32_26 : BitVec 32 := 0#32
  let c1_i32_28 : BitVec 32 := 1#32
  let arg7 : BitVec 32 := Scf.iv c0_i32_26 c1_i32_28 k0_t6
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk48 (v1415 : IVec S16 32) : Prop :=
  (∀ a x, ((![v1415] : Fin 1 → IVec S16 32) a x).toNat < S1024.size a)
theorem k0_idx48_inb : ∀ (v1415 : IVec S16 32) (k0_hw48 : k0_chk48 v1415), ∀ a x, ((![v1415] : Fin 1 → IVec S16 32) a x).toNat < S1024.size a := fun v1415 k0_hw48 => k0_hw48
@[reducible] def k0_t7_loop : Scf.Loop 32 :=
  let c0_i32_31 : BitVec 32 := 0#32
  let c256_i32_32 : BitVec 32 := 256#32
  let v87 : BitVec 32 := Scalar.addi c0_i32_31 c256_i32_32
  let c1_i32_33 : BitVec 32 := 1#32
  ⟨c0_i32_31, v87, c1_i32_33⟩
def k0_off50 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk49 (v1338 : IVec S16 32) : Prop :=
  (∀ a x, ((![v1338] : Fin 1 → IVec S16 32) a x).toNat < S1024.size a)
theorem k0_idx49_inb : ∀ (v1338 : IVec S16 32) (k0_hw49 : k0_chk49 v1338), ∀ a x, ((![v1338] : Fin 1 → IVec S16 32) a x).toNat < S1024.size a := fun v1338 k0_hw49 => k0_hw49
def k0_off51 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk50 (v1349 : IVec S16 32) : Prop :=
  (∀ a x, ((![v1349] : Fin 1 → IVec S16 32) a x).toNat < S1024.size a)
theorem k0_idx50_inb : ∀ (v1349 : IVec S16 32) (k0_hw50 : k0_chk50 v1349), ∀ a x, ((![v1349] : Fin 1 → IVec S16 32) a x).toNat < S1024.size a := fun v1349 k0_hw50 => k0_hw50
def k0_off52 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk51 (v1360 : IVec S16 32) : Prop :=
  (∀ a x, ((![v1360] : Fin 1 → IVec S16 32) a x).toNat < S1024.size a)
theorem k0_idx51_inb : ∀ (v1360 : IVec S16 32) (k0_hw51 : k0_chk51 v1360), ∀ a x, ((![v1360] : Fin 1 → IVec S16 32) a x).toNat < S1024.size a := fun v1360 k0_hw51 => k0_hw51
def k0_off53 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk52 (v1371 : IVec S16 32) : Prop :=
  (∀ a x, ((![v1371] : Fin 1 → IVec S16 32) a x).toNat < S1024.size a)
theorem k0_idx52_inb : ∀ (v1371 : IVec S16 32) (k0_hw52 : k0_chk52 v1371), ∀ a x, ((![v1371] : Fin 1 → IVec S16 32) a x).toNat < S1024.size a := fun v1371 k0_hw52 => k0_hw52
def k0_off54 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk53 (v1382 : IVec S16 32) : Prop :=
  (∀ a x, ((![v1382] : Fin 1 → IVec S16 32) a x).toNat < S1024.size a)
theorem k0_idx53_inb : ∀ (v1382 : IVec S16 32) (k0_hw53 : k0_chk53 v1382), ∀ a x, ((![v1382] : Fin 1 → IVec S16 32) a x).toNat < S1024.size a := fun v1382 k0_hw53 => k0_hw53
def k0_off55 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk54 (v1393 : IVec S16 32) : Prop :=
  (∀ a x, ((![v1393] : Fin 1 → IVec S16 32) a x).toNat < S1024.size a)
theorem k0_idx54_inb : ∀ (v1393 : IVec S16 32) (k0_hw54 : k0_chk54 v1393), ∀ a x, ((![v1393] : Fin 1 → IVec S16 32) a x).toNat < S1024.size a := fun v1393 k0_hw54 => k0_hw54
def k0_off56 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk55 (v1404 : IVec S16 32) : Prop :=
  (∀ a x, ((![v1404] : Fin 1 → IVec S16 32) a x).toNat < S1024.size a)
theorem k0_idx55_inb : ∀ (v1404 : IVec S16 32) (k0_hw55 : k0_chk55 v1404), ∀ a x, ((![v1404] : Fin 1 → IVec S16 32) a x).toNat < S1024.size a := fun v1404 k0_hw55 => k0_hw55
def k0_off57 (k0_t7 : Fin k0_t7_loop.trips) : Fin 1 → Nat :=
  let c0_i32_31 : BitVec 32 := 0#32
  let c1_i32_33 : BitVec 32 := 1#32
  let arg7 : BitVec 32 := Scf.iv c0_i32_31 c1_i32_33 k0_t7
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk56 (v1415 : IVec S16 32) : Prop :=
  (∀ a x, ((![v1415] : Fin 1 → IVec S16 32) a x).toNat < S1024.size a)
theorem k0_idx56_inb : ∀ (v1415 : IVec S16 32) (k0_hw56 : k0_chk56 v1415), ∀ a x, ((![v1415] : Fin 1 → IVec S16 32) a x).toNat < S1024.size a := fun v1415 k0_hw56 => k0_hw56
@[reducible] def k0_t8_loop : Scf.Loop 32 :=
  let c0_i32_36 : BitVec 32 := 0#32
  let c256_i32_37 : BitVec 32 := 256#32
  let v89 : BitVec 32 := Scalar.addi c0_i32_36 c256_i32_37
  let c1_i32_38 : BitVec 32 := 1#32
  ⟨c0_i32_36, v89, c1_i32_38⟩
def k0_off58 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk57 (v1338 : IVec S16 32) : Prop :=
  (∀ a x, ((![v1338] : Fin 1 → IVec S16 32) a x).toNat < S1024.size a)
theorem k0_idx57_inb : ∀ (v1338 : IVec S16 32) (k0_hw57 : k0_chk57 v1338), ∀ a x, ((![v1338] : Fin 1 → IVec S16 32) a x).toNat < S1024.size a := fun v1338 k0_hw57 => k0_hw57
def k0_off59 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk58 (v1349 : IVec S16 32) : Prop :=
  (∀ a x, ((![v1349] : Fin 1 → IVec S16 32) a x).toNat < S1024.size a)
theorem k0_idx58_inb : ∀ (v1349 : IVec S16 32) (k0_hw58 : k0_chk58 v1349), ∀ a x, ((![v1349] : Fin 1 → IVec S16 32) a x).toNat < S1024.size a := fun v1349 k0_hw58 => k0_hw58
def k0_off60 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk59 (v1360 : IVec S16 32) : Prop :=
  (∀ a x, ((![v1360] : Fin 1 → IVec S16 32) a x).toNat < S1024.size a)
theorem k0_idx59_inb : ∀ (v1360 : IVec S16 32) (k0_hw59 : k0_chk59 v1360), ∀ a x, ((![v1360] : Fin 1 → IVec S16 32) a x).toNat < S1024.size a := fun v1360 k0_hw59 => k0_hw59
def k0_off61 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk60 (v1371 : IVec S16 32) : Prop :=
  (∀ a x, ((![v1371] : Fin 1 → IVec S16 32) a x).toNat < S1024.size a)
theorem k0_idx60_inb : ∀ (v1371 : IVec S16 32) (k0_hw60 : k0_chk60 v1371), ∀ a x, ((![v1371] : Fin 1 → IVec S16 32) a x).toNat < S1024.size a := fun v1371 k0_hw60 => k0_hw60
def k0_off62 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk61 (v1382 : IVec S16 32) : Prop :=
  (∀ a x, ((![v1382] : Fin 1 → IVec S16 32) a x).toNat < S1024.size a)
theorem k0_idx61_inb : ∀ (v1382 : IVec S16 32) (k0_hw61 : k0_chk61 v1382), ∀ a x, ((![v1382] : Fin 1 → IVec S16 32) a x).toNat < S1024.size a := fun v1382 k0_hw61 => k0_hw61
def k0_off63 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk62 (v1393 : IVec S16 32) : Prop :=
  (∀ a x, ((![v1393] : Fin 1 → IVec S16 32) a x).toNat < S1024.size a)
theorem k0_idx62_inb : ∀ (v1393 : IVec S16 32) (k0_hw62 : k0_chk62 v1393), ∀ a x, ((![v1393] : Fin 1 → IVec S16 32) a x).toNat < S1024.size a := fun v1393 k0_hw62 => k0_hw62
def k0_off64 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk63 (v1404 : IVec S16 32) : Prop :=
  (∀ a x, ((![v1404] : Fin 1 → IVec S16 32) a x).toNat < S1024.size a)
theorem k0_idx63_inb : ∀ (v1404 : IVec S16 32) (k0_hw63 : k0_chk63 v1404), ∀ a x, ((![v1404] : Fin 1 → IVec S16 32) a x).toNat < S1024.size a := fun v1404 k0_hw63 => k0_hw63
def k0_off65 (k0_t8 : Fin k0_t8_loop.trips) : Fin 1 → Nat :=
  let c0_i32_36 : BitVec 32 := 0#32
  let c1_i32_38 : BitVec 32 := 1#32
  let arg7 : BitVec 32 := Scf.iv c0_i32_36 c1_i32_38 k0_t8
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk64 (v1415 : IVec S16 32) : Prop :=
  (∀ a x, ((![v1415] : Fin 1 → IVec S16 32) a x).toNat < S1024.size a)
theorem k0_idx64_inb : ∀ (v1415 : IVec S16 32) (k0_hw64 : k0_chk64 v1415), ∀ a x, ((![v1415] : Fin 1 → IVec S16 32) a x).toNat < S1024.size a := fun v1415 k0_hw64 => k0_hw64
def k0_off66 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v7 : BitVec 32 := Scalar.muli v1 c6_i32
  let v8 : BitVec 32 := Scalar.addi v7 c0_i32
  let c64_i32_112 : BitVec 32 := 64#32
  let v226 : BitVec 32 := Scalar.muli v8 c64_i32_112
  ![v226.toNat]
@[reducible] def k0_t9_loop : Scf.Loop 32 :=
  let c0_i32_182 : BitVec 32 := 0#32
  let c256_i32_183 : BitVec 32 := 256#32
  let v295 : BitVec 32 := Scalar.addi c0_i32_182 c256_i32_183
  let c1_i32_184 : BitVec 32 := 1#32
  ⟨c0_i32_182, v295, c1_i32_184⟩
def k0_off67 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk65 (v1338 : IVec S16 32) : Prop :=
  (∀ a x, ((![v1338] : Fin 1 → IVec S16 32) a x).toNat < S1024.size a)
theorem k0_idx65_inb : ∀ (v1338 : IVec S16 32) (k0_hw65 : k0_chk65 v1338), ∀ a x, ((![v1338] : Fin 1 → IVec S16 32) a x).toNat < S1024.size a := fun v1338 k0_hw65 => k0_hw65
def k0_off68 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk66 (v1349 : IVec S16 32) : Prop :=
  (∀ a x, ((![v1349] : Fin 1 → IVec S16 32) a x).toNat < S1024.size a)
theorem k0_idx66_inb : ∀ (v1349 : IVec S16 32) (k0_hw66 : k0_chk66 v1349), ∀ a x, ((![v1349] : Fin 1 → IVec S16 32) a x).toNat < S1024.size a := fun v1349 k0_hw66 => k0_hw66
def k0_off69 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk67 (v1360 : IVec S16 32) : Prop :=
  (∀ a x, ((![v1360] : Fin 1 → IVec S16 32) a x).toNat < S1024.size a)
theorem k0_idx67_inb : ∀ (v1360 : IVec S16 32) (k0_hw67 : k0_chk67 v1360), ∀ a x, ((![v1360] : Fin 1 → IVec S16 32) a x).toNat < S1024.size a := fun v1360 k0_hw67 => k0_hw67
def k0_off70 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk68 (v1371 : IVec S16 32) : Prop :=
  (∀ a x, ((![v1371] : Fin 1 → IVec S16 32) a x).toNat < S1024.size a)
theorem k0_idx68_inb : ∀ (v1371 : IVec S16 32) (k0_hw68 : k0_chk68 v1371), ∀ a x, ((![v1371] : Fin 1 → IVec S16 32) a x).toNat < S1024.size a := fun v1371 k0_hw68 => k0_hw68
def k0_off71 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk69 (v1382 : IVec S16 32) : Prop :=
  (∀ a x, ((![v1382] : Fin 1 → IVec S16 32) a x).toNat < S1024.size a)
theorem k0_idx69_inb : ∀ (v1382 : IVec S16 32) (k0_hw69 : k0_chk69 v1382), ∀ a x, ((![v1382] : Fin 1 → IVec S16 32) a x).toNat < S1024.size a := fun v1382 k0_hw69 => k0_hw69
def k0_off72 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk70 (v1393 : IVec S16 32) : Prop :=
  (∀ a x, ((![v1393] : Fin 1 → IVec S16 32) a x).toNat < S1024.size a)
theorem k0_idx70_inb : ∀ (v1393 : IVec S16 32) (k0_hw70 : k0_chk70 v1393), ∀ a x, ((![v1393] : Fin 1 → IVec S16 32) a x).toNat < S1024.size a := fun v1393 k0_hw70 => k0_hw70
def k0_off73 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk71 (v1404 : IVec S16 32) : Prop :=
  (∀ a x, ((![v1404] : Fin 1 → IVec S16 32) a x).toNat < S1024.size a)
theorem k0_idx71_inb : ∀ (v1404 : IVec S16 32) (k0_hw71 : k0_chk71 v1404), ∀ a x, ((![v1404] : Fin 1 → IVec S16 32) a x).toNat < S1024.size a := fun v1404 k0_hw71 => k0_hw71
def k0_off74 (k0_t9 : Fin k0_t9_loop.trips) : Fin 1 → Nat :=
  let c0_i32_182 : BitVec 32 := 0#32
  let c1_i32_184 : BitVec 32 := 1#32
  let arg7 : BitVec 32 := Scf.iv c0_i32_182 c1_i32_184 k0_t9
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk72 (v1415 : IVec S16 32) : Prop :=
  (∀ a x, ((![v1415] : Fin 1 → IVec S16 32) a x).toNat < S1024.size a)
theorem k0_idx72_inb : ∀ (v1415 : IVec S16 32) (k0_hw72 : k0_chk72 v1415), ∀ a x, ((![v1415] : Fin 1 → IVec S16 32) a x).toNat < S1024.size a := fun v1415 k0_hw72 => k0_hw72
@[reducible] def k0_t10_loop : Scf.Loop 32 :=
  let c0_i32_188 : BitVec 32 := 0#32
  let c256_i32_189 : BitVec 32 := 256#32
  let v297 : BitVec 32 := Scalar.addi c0_i32_188 c256_i32_189
  let c1_i32_190 : BitVec 32 := 1#32
  ⟨c0_i32_188, v297, c1_i32_190⟩
def k0_off75 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk73 (v1338 : IVec S16 32) : Prop :=
  (∀ a x, ((![v1338] : Fin 1 → IVec S16 32) a x).toNat < S1024.size a)
theorem k0_idx73_inb : ∀ (v1338 : IVec S16 32) (k0_hw73 : k0_chk73 v1338), ∀ a x, ((![v1338] : Fin 1 → IVec S16 32) a x).toNat < S1024.size a := fun v1338 k0_hw73 => k0_hw73
def k0_off76 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk74 (v1349 : IVec S16 32) : Prop :=
  (∀ a x, ((![v1349] : Fin 1 → IVec S16 32) a x).toNat < S1024.size a)
theorem k0_idx74_inb : ∀ (v1349 : IVec S16 32) (k0_hw74 : k0_chk74 v1349), ∀ a x, ((![v1349] : Fin 1 → IVec S16 32) a x).toNat < S1024.size a := fun v1349 k0_hw74 => k0_hw74
def k0_off77 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk75 (v1360 : IVec S16 32) : Prop :=
  (∀ a x, ((![v1360] : Fin 1 → IVec S16 32) a x).toNat < S1024.size a)
theorem k0_idx75_inb : ∀ (v1360 : IVec S16 32) (k0_hw75 : k0_chk75 v1360), ∀ a x, ((![v1360] : Fin 1 → IVec S16 32) a x).toNat < S1024.size a := fun v1360 k0_hw75 => k0_hw75
def k0_off78 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk76 (v1371 : IVec S16 32) : Prop :=
  (∀ a x, ((![v1371] : Fin 1 → IVec S16 32) a x).toNat < S1024.size a)
theorem k0_idx76_inb : ∀ (v1371 : IVec S16 32) (k0_hw76 : k0_chk76 v1371), ∀ a x, ((![v1371] : Fin 1 → IVec S16 32) a x).toNat < S1024.size a := fun v1371 k0_hw76 => k0_hw76
def k0_off79 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk77 (v1382 : IVec S16 32) : Prop :=
  (∀ a x, ((![v1382] : Fin 1 → IVec S16 32) a x).toNat < S1024.size a)
theorem k0_idx77_inb : ∀ (v1382 : IVec S16 32) (k0_hw77 : k0_chk77 v1382), ∀ a x, ((![v1382] : Fin 1 → IVec S16 32) a x).toNat < S1024.size a := fun v1382 k0_hw77 => k0_hw77
def k0_off80 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk78 (v1393 : IVec S16 32) : Prop :=
  (∀ a x, ((![v1393] : Fin 1 → IVec S16 32) a x).toNat < S1024.size a)
theorem k0_idx78_inb : ∀ (v1393 : IVec S16 32) (k0_hw78 : k0_chk78 v1393), ∀ a x, ((![v1393] : Fin 1 → IVec S16 32) a x).toNat < S1024.size a := fun v1393 k0_hw78 => k0_hw78
def k0_off81 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk79 (v1404 : IVec S16 32) : Prop :=
  (∀ a x, ((![v1404] : Fin 1 → IVec S16 32) a x).toNat < S1024.size a)
theorem k0_idx79_inb : ∀ (v1404 : IVec S16 32) (k0_hw79 : k0_chk79 v1404), ∀ a x, ((![v1404] : Fin 1 → IVec S16 32) a x).toNat < S1024.size a := fun v1404 k0_hw79 => k0_hw79
def k0_off82 (k0_t10 : Fin k0_t10_loop.trips) : Fin 1 → Nat :=
  let c0_i32_188 : BitVec 32 := 0#32
  let c1_i32_190 : BitVec 32 := 1#32
  let arg7 : BitVec 32 := Scf.iv c0_i32_188 c1_i32_190 k0_t10
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk80 (v1415 : IVec S16 32) : Prop :=
  (∀ a x, ((![v1415] : Fin 1 → IVec S16 32) a x).toNat < S1024.size a)
theorem k0_idx80_inb : ∀ (v1415 : IVec S16 32) (k0_hw80 : k0_chk80 v1415), ∀ a x, ((![v1415] : Fin 1 → IVec S16 32) a x).toNat < S1024.size a := fun v1415 k0_hw80 => k0_hw80
@[reducible] def k0_t11_loop : Scf.Loop 32 :=
  let c0_i32_194 : BitVec 32 := 0#32
  let c256_i32_195 : BitVec 32 := 256#32
  let v299 : BitVec 32 := Scalar.addi c0_i32_194 c256_i32_195
  let c1_i32_196 : BitVec 32 := 1#32
  ⟨c0_i32_194, v299, c1_i32_196⟩
def k0_off83 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk81 (v1338 : IVec S16 32) : Prop :=
  (∀ a x, ((![v1338] : Fin 1 → IVec S16 32) a x).toNat < S1024.size a)
theorem k0_idx81_inb : ∀ (v1338 : IVec S16 32) (k0_hw81 : k0_chk81 v1338), ∀ a x, ((![v1338] : Fin 1 → IVec S16 32) a x).toNat < S1024.size a := fun v1338 k0_hw81 => k0_hw81
def k0_off84 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk82 (v1349 : IVec S16 32) : Prop :=
  (∀ a x, ((![v1349] : Fin 1 → IVec S16 32) a x).toNat < S1024.size a)
theorem k0_idx82_inb : ∀ (v1349 : IVec S16 32) (k0_hw82 : k0_chk82 v1349), ∀ a x, ((![v1349] : Fin 1 → IVec S16 32) a x).toNat < S1024.size a := fun v1349 k0_hw82 => k0_hw82
def k0_off85 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk83 (v1360 : IVec S16 32) : Prop :=
  (∀ a x, ((![v1360] : Fin 1 → IVec S16 32) a x).toNat < S1024.size a)
theorem k0_idx83_inb : ∀ (v1360 : IVec S16 32) (k0_hw83 : k0_chk83 v1360), ∀ a x, ((![v1360] : Fin 1 → IVec S16 32) a x).toNat < S1024.size a := fun v1360 k0_hw83 => k0_hw83
def k0_off86 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk84 (v1371 : IVec S16 32) : Prop :=
  (∀ a x, ((![v1371] : Fin 1 → IVec S16 32) a x).toNat < S1024.size a)
theorem k0_idx84_inb : ∀ (v1371 : IVec S16 32) (k0_hw84 : k0_chk84 v1371), ∀ a x, ((![v1371] : Fin 1 → IVec S16 32) a x).toNat < S1024.size a := fun v1371 k0_hw84 => k0_hw84
def k0_off87 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk85 (v1382 : IVec S16 32) : Prop :=
  (∀ a x, ((![v1382] : Fin 1 → IVec S16 32) a x).toNat < S1024.size a)
theorem k0_idx85_inb : ∀ (v1382 : IVec S16 32) (k0_hw85 : k0_chk85 v1382), ∀ a x, ((![v1382] : Fin 1 → IVec S16 32) a x).toNat < S1024.size a := fun v1382 k0_hw85 => k0_hw85
def k0_off88 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk86 (v1393 : IVec S16 32) : Prop :=
  (∀ a x, ((![v1393] : Fin 1 → IVec S16 32) a x).toNat < S1024.size a)
theorem k0_idx86_inb : ∀ (v1393 : IVec S16 32) (k0_hw86 : k0_chk86 v1393), ∀ a x, ((![v1393] : Fin 1 → IVec S16 32) a x).toNat < S1024.size a := fun v1393 k0_hw86 => k0_hw86
def k0_off89 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk87 (v1404 : IVec S16 32) : Prop :=
  (∀ a x, ((![v1404] : Fin 1 → IVec S16 32) a x).toNat < S1024.size a)
theorem k0_idx87_inb : ∀ (v1404 : IVec S16 32) (k0_hw87 : k0_chk87 v1404), ∀ a x, ((![v1404] : Fin 1 → IVec S16 32) a x).toNat < S1024.size a := fun v1404 k0_hw87 => k0_hw87
def k0_off90 (k0_t11 : Fin k0_t11_loop.trips) : Fin 1 → Nat :=
  let c0_i32_194 : BitVec 32 := 0#32
  let c1_i32_196 : BitVec 32 := 1#32
  let arg7 : BitVec 32 := Scf.iv c0_i32_194 c1_i32_196 k0_t11
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk88 (v1415 : IVec S16 32) : Prop :=
  (∀ a x, ((![v1415] : Fin 1 → IVec S16 32) a x).toNat < S1024.size a)
theorem k0_idx88_inb : ∀ (v1415 : IVec S16 32) (k0_hw88 : k0_chk88 v1415), ∀ a x, ((![v1415] : Fin 1 → IVec S16 32) a x).toNat < S1024.size a := fun v1415 k0_hw88 => k0_hw88
@[reducible] def k0_t12_loop : Scf.Loop 32 :=
  let c0_i32_200 : BitVec 32 := 0#32
  let c256_i32_201 : BitVec 32 := 256#32
  let v301 : BitVec 32 := Scalar.addi c0_i32_200 c256_i32_201
  let c1_i32_202 : BitVec 32 := 1#32
  ⟨c0_i32_200, v301, c1_i32_202⟩
def k0_off91 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk89 (v1338 : IVec S16 32) : Prop :=
  (∀ a x, ((![v1338] : Fin 1 → IVec S16 32) a x).toNat < S1024.size a)
theorem k0_idx89_inb : ∀ (v1338 : IVec S16 32) (k0_hw89 : k0_chk89 v1338), ∀ a x, ((![v1338] : Fin 1 → IVec S16 32) a x).toNat < S1024.size a := fun v1338 k0_hw89 => k0_hw89
def k0_off92 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk90 (v1349 : IVec S16 32) : Prop :=
  (∀ a x, ((![v1349] : Fin 1 → IVec S16 32) a x).toNat < S1024.size a)
theorem k0_idx90_inb : ∀ (v1349 : IVec S16 32) (k0_hw90 : k0_chk90 v1349), ∀ a x, ((![v1349] : Fin 1 → IVec S16 32) a x).toNat < S1024.size a := fun v1349 k0_hw90 => k0_hw90
def k0_off93 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk91 (v1360 : IVec S16 32) : Prop :=
  (∀ a x, ((![v1360] : Fin 1 → IVec S16 32) a x).toNat < S1024.size a)
theorem k0_idx91_inb : ∀ (v1360 : IVec S16 32) (k0_hw91 : k0_chk91 v1360), ∀ a x, ((![v1360] : Fin 1 → IVec S16 32) a x).toNat < S1024.size a := fun v1360 k0_hw91 => k0_hw91
def k0_off94 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk92 (v1371 : IVec S16 32) : Prop :=
  (∀ a x, ((![v1371] : Fin 1 → IVec S16 32) a x).toNat < S1024.size a)
theorem k0_idx92_inb : ∀ (v1371 : IVec S16 32) (k0_hw92 : k0_chk92 v1371), ∀ a x, ((![v1371] : Fin 1 → IVec S16 32) a x).toNat < S1024.size a := fun v1371 k0_hw92 => k0_hw92
def k0_off95 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk93 (v1382 : IVec S16 32) : Prop :=
  (∀ a x, ((![v1382] : Fin 1 → IVec S16 32) a x).toNat < S1024.size a)
theorem k0_idx93_inb : ∀ (v1382 : IVec S16 32) (k0_hw93 : k0_chk93 v1382), ∀ a x, ((![v1382] : Fin 1 → IVec S16 32) a x).toNat < S1024.size a := fun v1382 k0_hw93 => k0_hw93
def k0_off96 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk94 (v1393 : IVec S16 32) : Prop :=
  (∀ a x, ((![v1393] : Fin 1 → IVec S16 32) a x).toNat < S1024.size a)
theorem k0_idx94_inb : ∀ (v1393 : IVec S16 32) (k0_hw94 : k0_chk94 v1393), ∀ a x, ((![v1393] : Fin 1 → IVec S16 32) a x).toNat < S1024.size a := fun v1393 k0_hw94 => k0_hw94
def k0_off97 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk95 (v1404 : IVec S16 32) : Prop :=
  (∀ a x, ((![v1404] : Fin 1 → IVec S16 32) a x).toNat < S1024.size a)
theorem k0_idx95_inb : ∀ (v1404 : IVec S16 32) (k0_hw95 : k0_chk95 v1404), ∀ a x, ((![v1404] : Fin 1 → IVec S16 32) a x).toNat < S1024.size a := fun v1404 k0_hw95 => k0_hw95
def k0_off98 (k0_t12 : Fin k0_t12_loop.trips) : Fin 1 → Nat :=
  let c0_i32_200 : BitVec 32 := 0#32
  let c1_i32_202 : BitVec 32 := 1#32
  let arg7 : BitVec 32 := Scf.iv c0_i32_200 c1_i32_202 k0_t12
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk96 (v1415 : IVec S16 32) : Prop :=
  (∀ a x, ((![v1415] : Fin 1 → IVec S16 32) a x).toNat < S1024.size a)
theorem k0_idx96_inb : ∀ (v1415 : IVec S16 32) (k0_hw96 : k0_chk96 v1415), ∀ a x, ((![v1415] : Fin 1 → IVec S16 32) a x).toNat < S1024.size a := fun v1415 k0_hw96 => k0_hw96
@[reducible] def k0_t13_loop : Scf.Loop 32 :=
  let c0_i32_206 : BitVec 32 := 0#32
  let c256_i32_207 : BitVec 32 := 256#32
  let v303 : BitVec 32 := Scalar.addi c0_i32_206 c256_i32_207
  let c1_i32_208 : BitVec 32 := 1#32
  ⟨c0_i32_206, v303, c1_i32_208⟩
def k0_off99 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk97 (v1338 : IVec S16 32) : Prop :=
  (∀ a x, ((![v1338] : Fin 1 → IVec S16 32) a x).toNat < S1024.size a)
theorem k0_idx97_inb : ∀ (v1338 : IVec S16 32) (k0_hw97 : k0_chk97 v1338), ∀ a x, ((![v1338] : Fin 1 → IVec S16 32) a x).toNat < S1024.size a := fun v1338 k0_hw97 => k0_hw97
def k0_off100 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk98 (v1349 : IVec S16 32) : Prop :=
  (∀ a x, ((![v1349] : Fin 1 → IVec S16 32) a x).toNat < S1024.size a)
theorem k0_idx98_inb : ∀ (v1349 : IVec S16 32) (k0_hw98 : k0_chk98 v1349), ∀ a x, ((![v1349] : Fin 1 → IVec S16 32) a x).toNat < S1024.size a := fun v1349 k0_hw98 => k0_hw98
def k0_off101 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk99 (v1360 : IVec S16 32) : Prop :=
  (∀ a x, ((![v1360] : Fin 1 → IVec S16 32) a x).toNat < S1024.size a)
theorem k0_idx99_inb : ∀ (v1360 : IVec S16 32) (k0_hw99 : k0_chk99 v1360), ∀ a x, ((![v1360] : Fin 1 → IVec S16 32) a x).toNat < S1024.size a := fun v1360 k0_hw99 => k0_hw99
def k0_off102 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk100 (v1371 : IVec S16 32) : Prop :=
  (∀ a x, ((![v1371] : Fin 1 → IVec S16 32) a x).toNat < S1024.size a)
theorem k0_idx100_inb : ∀ (v1371 : IVec S16 32) (k0_hw100 : k0_chk100 v1371), ∀ a x, ((![v1371] : Fin 1 → IVec S16 32) a x).toNat < S1024.size a := fun v1371 k0_hw100 => k0_hw100
def k0_off103 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk101 (v1382 : IVec S16 32) : Prop :=
  (∀ a x, ((![v1382] : Fin 1 → IVec S16 32) a x).toNat < S1024.size a)
theorem k0_idx101_inb : ∀ (v1382 : IVec S16 32) (k0_hw101 : k0_chk101 v1382), ∀ a x, ((![v1382] : Fin 1 → IVec S16 32) a x).toNat < S1024.size a := fun v1382 k0_hw101 => k0_hw101
def k0_off104 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk102 (v1393 : IVec S16 32) : Prop :=
  (∀ a x, ((![v1393] : Fin 1 → IVec S16 32) a x).toNat < S1024.size a)
theorem k0_idx102_inb : ∀ (v1393 : IVec S16 32) (k0_hw102 : k0_chk102 v1393), ∀ a x, ((![v1393] : Fin 1 → IVec S16 32) a x).toNat < S1024.size a := fun v1393 k0_hw102 => k0_hw102
def k0_off105 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk103 (v1404 : IVec S16 32) : Prop :=
  (∀ a x, ((![v1404] : Fin 1 → IVec S16 32) a x).toNat < S1024.size a)
theorem k0_idx103_inb : ∀ (v1404 : IVec S16 32) (k0_hw103 : k0_chk103 v1404), ∀ a x, ((![v1404] : Fin 1 → IVec S16 32) a x).toNat < S1024.size a := fun v1404 k0_hw103 => k0_hw103
def k0_off106 (k0_t13 : Fin k0_t13_loop.trips) : Fin 1 → Nat :=
  let c0_i32_206 : BitVec 32 := 0#32
  let c1_i32_208 : BitVec 32 := 1#32
  let arg7 : BitVec 32 := Scf.iv c0_i32_206 c1_i32_208 k0_t13
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk104 (v1415 : IVec S16 32) : Prop :=
  (∀ a x, ((![v1415] : Fin 1 → IVec S16 32) a x).toNat < S1024.size a)
theorem k0_idx104_inb : ∀ (v1415 : IVec S16 32) (k0_hw104 : k0_chk104 v1415), ∀ a x, ((![v1415] : Fin 1 → IVec S16 32) a x).toNat < S1024.size a := fun v1415 k0_hw104 => k0_hw104
@[reducible] def k0_t14_loop : Scf.Loop 32 :=
  let c0_i32_212 : BitVec 32 := 0#32
  let c256_i32_213 : BitVec 32 := 256#32
  let v305 : BitVec 32 := Scalar.addi c0_i32_212 c256_i32_213
  let c1_i32_214 : BitVec 32 := 1#32
  ⟨c0_i32_212, v305, c1_i32_214⟩
def k0_off107 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk105 (v1338 : IVec S16 32) : Prop :=
  (∀ a x, ((![v1338] : Fin 1 → IVec S16 32) a x).toNat < S1024.size a)
theorem k0_idx105_inb : ∀ (v1338 : IVec S16 32) (k0_hw105 : k0_chk105 v1338), ∀ a x, ((![v1338] : Fin 1 → IVec S16 32) a x).toNat < S1024.size a := fun v1338 k0_hw105 => k0_hw105
def k0_off108 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk106 (v1349 : IVec S16 32) : Prop :=
  (∀ a x, ((![v1349] : Fin 1 → IVec S16 32) a x).toNat < S1024.size a)
theorem k0_idx106_inb : ∀ (v1349 : IVec S16 32) (k0_hw106 : k0_chk106 v1349), ∀ a x, ((![v1349] : Fin 1 → IVec S16 32) a x).toNat < S1024.size a := fun v1349 k0_hw106 => k0_hw106
def k0_off109 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk107 (v1360 : IVec S16 32) : Prop :=
  (∀ a x, ((![v1360] : Fin 1 → IVec S16 32) a x).toNat < S1024.size a)
theorem k0_idx107_inb : ∀ (v1360 : IVec S16 32) (k0_hw107 : k0_chk107 v1360), ∀ a x, ((![v1360] : Fin 1 → IVec S16 32) a x).toNat < S1024.size a := fun v1360 k0_hw107 => k0_hw107
def k0_off110 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk108 (v1371 : IVec S16 32) : Prop :=
  (∀ a x, ((![v1371] : Fin 1 → IVec S16 32) a x).toNat < S1024.size a)
theorem k0_idx108_inb : ∀ (v1371 : IVec S16 32) (k0_hw108 : k0_chk108 v1371), ∀ a x, ((![v1371] : Fin 1 → IVec S16 32) a x).toNat < S1024.size a := fun v1371 k0_hw108 => k0_hw108
def k0_off111 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk109 (v1382 : IVec S16 32) : Prop :=
  (∀ a x, ((![v1382] : Fin 1 → IVec S16 32) a x).toNat < S1024.size a)
theorem k0_idx109_inb : ∀ (v1382 : IVec S16 32) (k0_hw109 : k0_chk109 v1382), ∀ a x, ((![v1382] : Fin 1 → IVec S16 32) a x).toNat < S1024.size a := fun v1382 k0_hw109 => k0_hw109
def k0_off112 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk110 (v1393 : IVec S16 32) : Prop :=
  (∀ a x, ((![v1393] : Fin 1 → IVec S16 32) a x).toNat < S1024.size a)
theorem k0_idx110_inb : ∀ (v1393 : IVec S16 32) (k0_hw110 : k0_chk110 v1393), ∀ a x, ((![v1393] : Fin 1 → IVec S16 32) a x).toNat < S1024.size a := fun v1393 k0_hw110 => k0_hw110
def k0_off113 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk111 (v1404 : IVec S16 32) : Prop :=
  (∀ a x, ((![v1404] : Fin 1 → IVec S16 32) a x).toNat < S1024.size a)
theorem k0_idx111_inb : ∀ (v1404 : IVec S16 32) (k0_hw111 : k0_chk111 v1404), ∀ a x, ((![v1404] : Fin 1 → IVec S16 32) a x).toNat < S1024.size a := fun v1404 k0_hw111 => k0_hw111
def k0_off114 (k0_t14 : Fin k0_t14_loop.trips) : Fin 1 → Nat :=
  let c0_i32_212 : BitVec 32 := 0#32
  let c1_i32_214 : BitVec 32 := 1#32
  let arg7 : BitVec 32 := Scf.iv c0_i32_212 c1_i32_214 k0_t14
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk112 (v1415 : IVec S16 32) : Prop :=
  (∀ a x, ((![v1415] : Fin 1 → IVec S16 32) a x).toNat < S1024.size a)
theorem k0_idx112_inb : ∀ (v1415 : IVec S16 32) (k0_hw112 : k0_chk112 v1415), ∀ a x, ((![v1415] : Fin 1 → IVec S16 32) a x).toNat < S1024.size a := fun v1415 k0_hw112 => k0_hw112
@[reducible] def k0_t15_loop : Scf.Loop 32 :=
  let c0_i32_218 : BitVec 32 := 0#32
  let c256_i32_219 : BitVec 32 := 256#32
  let v307 : BitVec 32 := Scalar.addi c0_i32_218 c256_i32_219
  let c1_i32_220 : BitVec 32 := 1#32
  ⟨c0_i32_218, v307, c1_i32_220⟩
def k0_off115 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk113 (v1338 : IVec S16 32) : Prop :=
  (∀ a x, ((![v1338] : Fin 1 → IVec S16 32) a x).toNat < S1024.size a)
theorem k0_idx113_inb : ∀ (v1338 : IVec S16 32) (k0_hw113 : k0_chk113 v1338), ∀ a x, ((![v1338] : Fin 1 → IVec S16 32) a x).toNat < S1024.size a := fun v1338 k0_hw113 => k0_hw113
def k0_off116 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk114 (v1349 : IVec S16 32) : Prop :=
  (∀ a x, ((![v1349] : Fin 1 → IVec S16 32) a x).toNat < S1024.size a)
theorem k0_idx114_inb : ∀ (v1349 : IVec S16 32) (k0_hw114 : k0_chk114 v1349), ∀ a x, ((![v1349] : Fin 1 → IVec S16 32) a x).toNat < S1024.size a := fun v1349 k0_hw114 => k0_hw114
def k0_off117 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk115 (v1360 : IVec S16 32) : Prop :=
  (∀ a x, ((![v1360] : Fin 1 → IVec S16 32) a x).toNat < S1024.size a)
theorem k0_idx115_inb : ∀ (v1360 : IVec S16 32) (k0_hw115 : k0_chk115 v1360), ∀ a x, ((![v1360] : Fin 1 → IVec S16 32) a x).toNat < S1024.size a := fun v1360 k0_hw115 => k0_hw115
def k0_off118 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk116 (v1371 : IVec S16 32) : Prop :=
  (∀ a x, ((![v1371] : Fin 1 → IVec S16 32) a x).toNat < S1024.size a)
theorem k0_idx116_inb : ∀ (v1371 : IVec S16 32) (k0_hw116 : k0_chk116 v1371), ∀ a x, ((![v1371] : Fin 1 → IVec S16 32) a x).toNat < S1024.size a := fun v1371 k0_hw116 => k0_hw116
def k0_off119 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk117 (v1382 : IVec S16 32) : Prop :=
  (∀ a x, ((![v1382] : Fin 1 → IVec S16 32) a x).toNat < S1024.size a)
theorem k0_idx117_inb : ∀ (v1382 : IVec S16 32) (k0_hw117 : k0_chk117 v1382), ∀ a x, ((![v1382] : Fin 1 → IVec S16 32) a x).toNat < S1024.size a := fun v1382 k0_hw117 => k0_hw117
def k0_off120 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk118 (v1393 : IVec S16 32) : Prop :=
  (∀ a x, ((![v1393] : Fin 1 → IVec S16 32) a x).toNat < S1024.size a)
theorem k0_idx118_inb : ∀ (v1393 : IVec S16 32) (k0_hw118 : k0_chk118 v1393), ∀ a x, ((![v1393] : Fin 1 → IVec S16 32) a x).toNat < S1024.size a := fun v1393 k0_hw118 => k0_hw118
def k0_off121 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk119 (v1404 : IVec S16 32) : Prop :=
  (∀ a x, ((![v1404] : Fin 1 → IVec S16 32) a x).toNat < S1024.size a)
theorem k0_idx119_inb : ∀ (v1404 : IVec S16 32) (k0_hw119 : k0_chk119 v1404), ∀ a x, ((![v1404] : Fin 1 → IVec S16 32) a x).toNat < S1024.size a := fun v1404 k0_hw119 => k0_hw119
def k0_off122 (k0_t15 : Fin k0_t15_loop.trips) : Fin 1 → Nat :=
  let c0_i32_218 : BitVec 32 := 0#32
  let c1_i32_220 : BitVec 32 := 1#32
  let arg7 : BitVec 32 := Scf.iv c0_i32_218 c1_i32_220 k0_t15
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk120 (v1415 : IVec S16 32) : Prop :=
  (∀ a x, ((![v1415] : Fin 1 → IVec S16 32) a x).toNat < S1024.size a)
theorem k0_idx120_inb : ∀ (v1415 : IVec S16 32) (k0_hw120 : k0_chk120 v1415), ∀ a x, ((![v1415] : Fin 1 → IVec S16 32) a x).toNat < S1024.size a := fun v1415 k0_hw120 => k0_hw120
@[reducible] def k0_t16_loop : Scf.Loop 32 :=
  let c0_i32_224 : BitVec 32 := 0#32
  let c256_i32_225 : BitVec 32 := 256#32
  let v309 : BitVec 32 := Scalar.addi c0_i32_224 c256_i32_225
  let c1_i32_226 : BitVec 32 := 1#32
  ⟨c0_i32_224, v309, c1_i32_226⟩
def k0_off123 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk121 (v1338 : IVec S16 32) : Prop :=
  (∀ a x, ((![v1338] : Fin 1 → IVec S16 32) a x).toNat < S1024.size a)
theorem k0_idx121_inb : ∀ (v1338 : IVec S16 32) (k0_hw121 : k0_chk121 v1338), ∀ a x, ((![v1338] : Fin 1 → IVec S16 32) a x).toNat < S1024.size a := fun v1338 k0_hw121 => k0_hw121
def k0_off124 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk122 (v1349 : IVec S16 32) : Prop :=
  (∀ a x, ((![v1349] : Fin 1 → IVec S16 32) a x).toNat < S1024.size a)
theorem k0_idx122_inb : ∀ (v1349 : IVec S16 32) (k0_hw122 : k0_chk122 v1349), ∀ a x, ((![v1349] : Fin 1 → IVec S16 32) a x).toNat < S1024.size a := fun v1349 k0_hw122 => k0_hw122
def k0_off125 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk123 (v1360 : IVec S16 32) : Prop :=
  (∀ a x, ((![v1360] : Fin 1 → IVec S16 32) a x).toNat < S1024.size a)
theorem k0_idx123_inb : ∀ (v1360 : IVec S16 32) (k0_hw123 : k0_chk123 v1360), ∀ a x, ((![v1360] : Fin 1 → IVec S16 32) a x).toNat < S1024.size a := fun v1360 k0_hw123 => k0_hw123
def k0_off126 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk124 (v1371 : IVec S16 32) : Prop :=
  (∀ a x, ((![v1371] : Fin 1 → IVec S16 32) a x).toNat < S1024.size a)
theorem k0_idx124_inb : ∀ (v1371 : IVec S16 32) (k0_hw124 : k0_chk124 v1371), ∀ a x, ((![v1371] : Fin 1 → IVec S16 32) a x).toNat < S1024.size a := fun v1371 k0_hw124 => k0_hw124
def k0_off127 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk125 (v1382 : IVec S16 32) : Prop :=
  (∀ a x, ((![v1382] : Fin 1 → IVec S16 32) a x).toNat < S1024.size a)
theorem k0_idx125_inb : ∀ (v1382 : IVec S16 32) (k0_hw125 : k0_chk125 v1382), ∀ a x, ((![v1382] : Fin 1 → IVec S16 32) a x).toNat < S1024.size a := fun v1382 k0_hw125 => k0_hw125
def k0_off128 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk126 (v1393 : IVec S16 32) : Prop :=
  (∀ a x, ((![v1393] : Fin 1 → IVec S16 32) a x).toNat < S1024.size a)
theorem k0_idx126_inb : ∀ (v1393 : IVec S16 32) (k0_hw126 : k0_chk126 v1393), ∀ a x, ((![v1393] : Fin 1 → IVec S16 32) a x).toNat < S1024.size a := fun v1393 k0_hw126 => k0_hw126
def k0_off129 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk127 (v1404 : IVec S16 32) : Prop :=
  (∀ a x, ((![v1404] : Fin 1 → IVec S16 32) a x).toNat < S1024.size a)
theorem k0_idx127_inb : ∀ (v1404 : IVec S16 32) (k0_hw127 : k0_chk127 v1404), ∀ a x, ((![v1404] : Fin 1 → IVec S16 32) a x).toNat < S1024.size a := fun v1404 k0_hw127 => k0_hw127
def k0_off130 (k0_t16 : Fin k0_t16_loop.trips) : Fin 1 → Nat :=
  let c0_i32_224 : BitVec 32 := 0#32
  let c1_i32_226 : BitVec 32 := 1#32
  let arg7 : BitVec 32 := Scf.iv c0_i32_224 c1_i32_226 k0_t16
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk128 (v1415 : IVec S16 32) : Prop :=
  (∀ a x, ((![v1415] : Fin 1 → IVec S16 32) a x).toNat < S1024.size a)
theorem k0_idx128_inb : ∀ (v1415 : IVec S16 32) (k0_hw128 : k0_chk128 v1415), ∀ a x, ((![v1415] : Fin 1 → IVec S16 32) a x).toNat < S1024.size a := fun v1415 k0_hw128 => k0_hw128
@[reducible] def k0_t17_loop : Scf.Loop 32 :=
  let c0_i32_370 : BitVec 32 := 0#32
  let c256_i32_371 : BitVec 32 := 256#32
  let v515 : BitVec 32 := Scalar.addi c0_i32_370 c256_i32_371
  let c1_i32_372 : BitVec 32 := 1#32
  ⟨c0_i32_370, v515, c1_i32_372⟩
def k0_off131 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk129 (v1338 : IVec S16 32) : Prop :=
  (∀ a x, ((![v1338] : Fin 1 → IVec S16 32) a x).toNat < S1024.size a)
theorem k0_idx129_inb : ∀ (v1338 : IVec S16 32) (k0_hw129 : k0_chk129 v1338), ∀ a x, ((![v1338] : Fin 1 → IVec S16 32) a x).toNat < S1024.size a := fun v1338 k0_hw129 => k0_hw129
def k0_off132 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk130 (v1349 : IVec S16 32) : Prop :=
  (∀ a x, ((![v1349] : Fin 1 → IVec S16 32) a x).toNat < S1024.size a)
theorem k0_idx130_inb : ∀ (v1349 : IVec S16 32) (k0_hw130 : k0_chk130 v1349), ∀ a x, ((![v1349] : Fin 1 → IVec S16 32) a x).toNat < S1024.size a := fun v1349 k0_hw130 => k0_hw130
def k0_off133 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk131 (v1360 : IVec S16 32) : Prop :=
  (∀ a x, ((![v1360] : Fin 1 → IVec S16 32) a x).toNat < S1024.size a)
theorem k0_idx131_inb : ∀ (v1360 : IVec S16 32) (k0_hw131 : k0_chk131 v1360), ∀ a x, ((![v1360] : Fin 1 → IVec S16 32) a x).toNat < S1024.size a := fun v1360 k0_hw131 => k0_hw131
def k0_off134 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk132 (v1371 : IVec S16 32) : Prop :=
  (∀ a x, ((![v1371] : Fin 1 → IVec S16 32) a x).toNat < S1024.size a)
theorem k0_idx132_inb : ∀ (v1371 : IVec S16 32) (k0_hw132 : k0_chk132 v1371), ∀ a x, ((![v1371] : Fin 1 → IVec S16 32) a x).toNat < S1024.size a := fun v1371 k0_hw132 => k0_hw132
def k0_off135 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk133 (v1382 : IVec S16 32) : Prop :=
  (∀ a x, ((![v1382] : Fin 1 → IVec S16 32) a x).toNat < S1024.size a)
theorem k0_idx133_inb : ∀ (v1382 : IVec S16 32) (k0_hw133 : k0_chk133 v1382), ∀ a x, ((![v1382] : Fin 1 → IVec S16 32) a x).toNat < S1024.size a := fun v1382 k0_hw133 => k0_hw133
def k0_off136 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk134 (v1393 : IVec S16 32) : Prop :=
  (∀ a x, ((![v1393] : Fin 1 → IVec S16 32) a x).toNat < S1024.size a)
theorem k0_idx134_inb : ∀ (v1393 : IVec S16 32) (k0_hw134 : k0_chk134 v1393), ∀ a x, ((![v1393] : Fin 1 → IVec S16 32) a x).toNat < S1024.size a := fun v1393 k0_hw134 => k0_hw134
def k0_off137 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk135 (v1404 : IVec S16 32) : Prop :=
  (∀ a x, ((![v1404] : Fin 1 → IVec S16 32) a x).toNat < S1024.size a)
theorem k0_idx135_inb : ∀ (v1404 : IVec S16 32) (k0_hw135 : k0_chk135 v1404), ∀ a x, ((![v1404] : Fin 1 → IVec S16 32) a x).toNat < S1024.size a := fun v1404 k0_hw135 => k0_hw135
def k0_off138 (k0_t17 : Fin k0_t17_loop.trips) : Fin 1 → Nat :=
  let c0_i32_370 : BitVec 32 := 0#32
  let c1_i32_372 : BitVec 32 := 1#32
  let arg7 : BitVec 32 := Scf.iv c0_i32_370 c1_i32_372 k0_t17
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk136 (v1415 : IVec S16 32) : Prop :=
  (∀ a x, ((![v1415] : Fin 1 → IVec S16 32) a x).toNat < S1024.size a)
theorem k0_idx136_inb : ∀ (v1415 : IVec S16 32) (k0_hw136 : k0_chk136 v1415), ∀ a x, ((![v1415] : Fin 1 → IVec S16 32) a x).toNat < S1024.size a := fun v1415 k0_hw136 => k0_hw136
@[reducible] def k0_t18_loop : Scf.Loop 32 :=
  let c0_i32_376 : BitVec 32 := 0#32
  let c256_i32_377 : BitVec 32 := 256#32
  let v517 : BitVec 32 := Scalar.addi c0_i32_376 c256_i32_377
  let c1_i32_378 : BitVec 32 := 1#32
  ⟨c0_i32_376, v517, c1_i32_378⟩
def k0_off139 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk137 (v1338 : IVec S16 32) : Prop :=
  (∀ a x, ((![v1338] : Fin 1 → IVec S16 32) a x).toNat < S1024.size a)
theorem k0_idx137_inb : ∀ (v1338 : IVec S16 32) (k0_hw137 : k0_chk137 v1338), ∀ a x, ((![v1338] : Fin 1 → IVec S16 32) a x).toNat < S1024.size a := fun v1338 k0_hw137 => k0_hw137
def k0_off140 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk138 (v1349 : IVec S16 32) : Prop :=
  (∀ a x, ((![v1349] : Fin 1 → IVec S16 32) a x).toNat < S1024.size a)
theorem k0_idx138_inb : ∀ (v1349 : IVec S16 32) (k0_hw138 : k0_chk138 v1349), ∀ a x, ((![v1349] : Fin 1 → IVec S16 32) a x).toNat < S1024.size a := fun v1349 k0_hw138 => k0_hw138
def k0_off141 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk139 (v1360 : IVec S16 32) : Prop :=
  (∀ a x, ((![v1360] : Fin 1 → IVec S16 32) a x).toNat < S1024.size a)
theorem k0_idx139_inb : ∀ (v1360 : IVec S16 32) (k0_hw139 : k0_chk139 v1360), ∀ a x, ((![v1360] : Fin 1 → IVec S16 32) a x).toNat < S1024.size a := fun v1360 k0_hw139 => k0_hw139
def k0_off142 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk140 (v1371 : IVec S16 32) : Prop :=
  (∀ a x, ((![v1371] : Fin 1 → IVec S16 32) a x).toNat < S1024.size a)
theorem k0_idx140_inb : ∀ (v1371 : IVec S16 32) (k0_hw140 : k0_chk140 v1371), ∀ a x, ((![v1371] : Fin 1 → IVec S16 32) a x).toNat < S1024.size a := fun v1371 k0_hw140 => k0_hw140
def k0_off143 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk141 (v1382 : IVec S16 32) : Prop :=
  (∀ a x, ((![v1382] : Fin 1 → IVec S16 32) a x).toNat < S1024.size a)
theorem k0_idx141_inb : ∀ (v1382 : IVec S16 32) (k0_hw141 : k0_chk141 v1382), ∀ a x, ((![v1382] : Fin 1 → IVec S16 32) a x).toNat < S1024.size a := fun v1382 k0_hw141 => k0_hw141
def k0_off144 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk142 (v1393 : IVec S16 32) : Prop :=
  (∀ a x, ((![v1393] : Fin 1 → IVec S16 32) a x).toNat < S1024.size a)
theorem k0_idx142_inb : ∀ (v1393 : IVec S16 32) (k0_hw142 : k0_chk142 v1393), ∀ a x, ((![v1393] : Fin 1 → IVec S16 32) a x).toNat < S1024.size a := fun v1393 k0_hw142 => k0_hw142
def k0_off145 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk143 (v1404 : IVec S16 32) : Prop :=
  (∀ a x, ((![v1404] : Fin 1 → IVec S16 32) a x).toNat < S1024.size a)
theorem k0_idx143_inb : ∀ (v1404 : IVec S16 32) (k0_hw143 : k0_chk143 v1404), ∀ a x, ((![v1404] : Fin 1 → IVec S16 32) a x).toNat < S1024.size a := fun v1404 k0_hw143 => k0_hw143
def k0_off146 (k0_t18 : Fin k0_t18_loop.trips) : Fin 1 → Nat :=
  let c0_i32_376 : BitVec 32 := 0#32
  let c1_i32_378 : BitVec 32 := 1#32
  let arg7 : BitVec 32 := Scf.iv c0_i32_376 c1_i32_378 k0_t18
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk144 (v1415 : IVec S16 32) : Prop :=
  (∀ a x, ((![v1415] : Fin 1 → IVec S16 32) a x).toNat < S1024.size a)
theorem k0_idx144_inb : ∀ (v1415 : IVec S16 32) (k0_hw144 : k0_chk144 v1415), ∀ a x, ((![v1415] : Fin 1 → IVec S16 32) a x).toNat < S1024.size a := fun v1415 k0_hw144 => k0_hw144
@[reducible] def k0_t19_loop : Scf.Loop 32 :=
  let c0_i32_382 : BitVec 32 := 0#32
  let c256_i32_383 : BitVec 32 := 256#32
  let v519 : BitVec 32 := Scalar.addi c0_i32_382 c256_i32_383
  let c1_i32_384 : BitVec 32 := 1#32
  ⟨c0_i32_382, v519, c1_i32_384⟩
def k0_off147 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk145 (v1338 : IVec S16 32) : Prop :=
  (∀ a x, ((![v1338] : Fin 1 → IVec S16 32) a x).toNat < S1024.size a)
theorem k0_idx145_inb : ∀ (v1338 : IVec S16 32) (k0_hw145 : k0_chk145 v1338), ∀ a x, ((![v1338] : Fin 1 → IVec S16 32) a x).toNat < S1024.size a := fun v1338 k0_hw145 => k0_hw145
def k0_off148 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk146 (v1349 : IVec S16 32) : Prop :=
  (∀ a x, ((![v1349] : Fin 1 → IVec S16 32) a x).toNat < S1024.size a)
theorem k0_idx146_inb : ∀ (v1349 : IVec S16 32) (k0_hw146 : k0_chk146 v1349), ∀ a x, ((![v1349] : Fin 1 → IVec S16 32) a x).toNat < S1024.size a := fun v1349 k0_hw146 => k0_hw146
def k0_off149 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk147 (v1360 : IVec S16 32) : Prop :=
  (∀ a x, ((![v1360] : Fin 1 → IVec S16 32) a x).toNat < S1024.size a)
theorem k0_idx147_inb : ∀ (v1360 : IVec S16 32) (k0_hw147 : k0_chk147 v1360), ∀ a x, ((![v1360] : Fin 1 → IVec S16 32) a x).toNat < S1024.size a := fun v1360 k0_hw147 => k0_hw147
def k0_off150 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk148 (v1371 : IVec S16 32) : Prop :=
  (∀ a x, ((![v1371] : Fin 1 → IVec S16 32) a x).toNat < S1024.size a)
theorem k0_idx148_inb : ∀ (v1371 : IVec S16 32) (k0_hw148 : k0_chk148 v1371), ∀ a x, ((![v1371] : Fin 1 → IVec S16 32) a x).toNat < S1024.size a := fun v1371 k0_hw148 => k0_hw148
def k0_off151 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk149 (v1382 : IVec S16 32) : Prop :=
  (∀ a x, ((![v1382] : Fin 1 → IVec S16 32) a x).toNat < S1024.size a)
theorem k0_idx149_inb : ∀ (v1382 : IVec S16 32) (k0_hw149 : k0_chk149 v1382), ∀ a x, ((![v1382] : Fin 1 → IVec S16 32) a x).toNat < S1024.size a := fun v1382 k0_hw149 => k0_hw149
def k0_off152 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk150 (v1393 : IVec S16 32) : Prop :=
  (∀ a x, ((![v1393] : Fin 1 → IVec S16 32) a x).toNat < S1024.size a)
theorem k0_idx150_inb : ∀ (v1393 : IVec S16 32) (k0_hw150 : k0_chk150 v1393), ∀ a x, ((![v1393] : Fin 1 → IVec S16 32) a x).toNat < S1024.size a := fun v1393 k0_hw150 => k0_hw150
def k0_off153 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk151 (v1404 : IVec S16 32) : Prop :=
  (∀ a x, ((![v1404] : Fin 1 → IVec S16 32) a x).toNat < S1024.size a)
theorem k0_idx151_inb : ∀ (v1404 : IVec S16 32) (k0_hw151 : k0_chk151 v1404), ∀ a x, ((![v1404] : Fin 1 → IVec S16 32) a x).toNat < S1024.size a := fun v1404 k0_hw151 => k0_hw151
def k0_off154 (k0_t19 : Fin k0_t19_loop.trips) : Fin 1 → Nat :=
  let c0_i32_382 : BitVec 32 := 0#32
  let c1_i32_384 : BitVec 32 := 1#32
  let arg7 : BitVec 32 := Scf.iv c0_i32_382 c1_i32_384 k0_t19
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk152 (v1415 : IVec S16 32) : Prop :=
  (∀ a x, ((![v1415] : Fin 1 → IVec S16 32) a x).toNat < S1024.size a)
theorem k0_idx152_inb : ∀ (v1415 : IVec S16 32) (k0_hw152 : k0_chk152 v1415), ∀ a x, ((![v1415] : Fin 1 → IVec S16 32) a x).toNat < S1024.size a := fun v1415 k0_hw152 => k0_hw152
@[reducible] def k0_t20_loop : Scf.Loop 32 :=
  let c0_i32_388 : BitVec 32 := 0#32
  let c256_i32_389 : BitVec 32 := 256#32
  let v521 : BitVec 32 := Scalar.addi c0_i32_388 c256_i32_389
  let c1_i32_390 : BitVec 32 := 1#32
  ⟨c0_i32_388, v521, c1_i32_390⟩
def k0_off155 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk153 (v1338 : IVec S16 32) : Prop :=
  (∀ a x, ((![v1338] : Fin 1 → IVec S16 32) a x).toNat < S1024.size a)
theorem k0_idx153_inb : ∀ (v1338 : IVec S16 32) (k0_hw153 : k0_chk153 v1338), ∀ a x, ((![v1338] : Fin 1 → IVec S16 32) a x).toNat < S1024.size a := fun v1338 k0_hw153 => k0_hw153
def k0_off156 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk154 (v1349 : IVec S16 32) : Prop :=
  (∀ a x, ((![v1349] : Fin 1 → IVec S16 32) a x).toNat < S1024.size a)
theorem k0_idx154_inb : ∀ (v1349 : IVec S16 32) (k0_hw154 : k0_chk154 v1349), ∀ a x, ((![v1349] : Fin 1 → IVec S16 32) a x).toNat < S1024.size a := fun v1349 k0_hw154 => k0_hw154
def k0_off157 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk155 (v1360 : IVec S16 32) : Prop :=
  (∀ a x, ((![v1360] : Fin 1 → IVec S16 32) a x).toNat < S1024.size a)
theorem k0_idx155_inb : ∀ (v1360 : IVec S16 32) (k0_hw155 : k0_chk155 v1360), ∀ a x, ((![v1360] : Fin 1 → IVec S16 32) a x).toNat < S1024.size a := fun v1360 k0_hw155 => k0_hw155
def k0_off158 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk156 (v1371 : IVec S16 32) : Prop :=
  (∀ a x, ((![v1371] : Fin 1 → IVec S16 32) a x).toNat < S1024.size a)
theorem k0_idx156_inb : ∀ (v1371 : IVec S16 32) (k0_hw156 : k0_chk156 v1371), ∀ a x, ((![v1371] : Fin 1 → IVec S16 32) a x).toNat < S1024.size a := fun v1371 k0_hw156 => k0_hw156
def k0_off159 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk157 (v1382 : IVec S16 32) : Prop :=
  (∀ a x, ((![v1382] : Fin 1 → IVec S16 32) a x).toNat < S1024.size a)
theorem k0_idx157_inb : ∀ (v1382 : IVec S16 32) (k0_hw157 : k0_chk157 v1382), ∀ a x, ((![v1382] : Fin 1 → IVec S16 32) a x).toNat < S1024.size a := fun v1382 k0_hw157 => k0_hw157
def k0_off160 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk158 (v1393 : IVec S16 32) : Prop :=
  (∀ a x, ((![v1393] : Fin 1 → IVec S16 32) a x).toNat < S1024.size a)
theorem k0_idx158_inb : ∀ (v1393 : IVec S16 32) (k0_hw158 : k0_chk158 v1393), ∀ a x, ((![v1393] : Fin 1 → IVec S16 32) a x).toNat < S1024.size a := fun v1393 k0_hw158 => k0_hw158
def k0_off161 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk159 (v1404 : IVec S16 32) : Prop :=
  (∀ a x, ((![v1404] : Fin 1 → IVec S16 32) a x).toNat < S1024.size a)
theorem k0_idx159_inb : ∀ (v1404 : IVec S16 32) (k0_hw159 : k0_chk159 v1404), ∀ a x, ((![v1404] : Fin 1 → IVec S16 32) a x).toNat < S1024.size a := fun v1404 k0_hw159 => k0_hw159
def k0_off162 (k0_t20 : Fin k0_t20_loop.trips) : Fin 1 → Nat :=
  let c0_i32_388 : BitVec 32 := 0#32
  let c1_i32_390 : BitVec 32 := 1#32
  let arg7 : BitVec 32 := Scf.iv c0_i32_388 c1_i32_390 k0_t20
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk160 (v1415 : IVec S16 32) : Prop :=
  (∀ a x, ((![v1415] : Fin 1 → IVec S16 32) a x).toNat < S1024.size a)
theorem k0_idx160_inb : ∀ (v1415 : IVec S16 32) (k0_hw160 : k0_chk160 v1415), ∀ a x, ((![v1415] : Fin 1 → IVec S16 32) a x).toNat < S1024.size a := fun v1415 k0_hw160 => k0_hw160
@[reducible] def k0_t21_loop : Scf.Loop 32 :=
  let c0_i32_394 : BitVec 32 := 0#32
  let c256_i32_395 : BitVec 32 := 256#32
  let v523 : BitVec 32 := Scalar.addi c0_i32_394 c256_i32_395
  let c1_i32_396 : BitVec 32 := 1#32
  ⟨c0_i32_394, v523, c1_i32_396⟩
def k0_off163 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk161 (v1338 : IVec S16 32) : Prop :=
  (∀ a x, ((![v1338] : Fin 1 → IVec S16 32) a x).toNat < S1024.size a)
theorem k0_idx161_inb : ∀ (v1338 : IVec S16 32) (k0_hw161 : k0_chk161 v1338), ∀ a x, ((![v1338] : Fin 1 → IVec S16 32) a x).toNat < S1024.size a := fun v1338 k0_hw161 => k0_hw161
def k0_off164 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk162 (v1349 : IVec S16 32) : Prop :=
  (∀ a x, ((![v1349] : Fin 1 → IVec S16 32) a x).toNat < S1024.size a)
theorem k0_idx162_inb : ∀ (v1349 : IVec S16 32) (k0_hw162 : k0_chk162 v1349), ∀ a x, ((![v1349] : Fin 1 → IVec S16 32) a x).toNat < S1024.size a := fun v1349 k0_hw162 => k0_hw162
def k0_off165 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk163 (v1360 : IVec S16 32) : Prop :=
  (∀ a x, ((![v1360] : Fin 1 → IVec S16 32) a x).toNat < S1024.size a)
theorem k0_idx163_inb : ∀ (v1360 : IVec S16 32) (k0_hw163 : k0_chk163 v1360), ∀ a x, ((![v1360] : Fin 1 → IVec S16 32) a x).toNat < S1024.size a := fun v1360 k0_hw163 => k0_hw163
def k0_off166 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk164 (v1371 : IVec S16 32) : Prop :=
  (∀ a x, ((![v1371] : Fin 1 → IVec S16 32) a x).toNat < S1024.size a)
theorem k0_idx164_inb : ∀ (v1371 : IVec S16 32) (k0_hw164 : k0_chk164 v1371), ∀ a x, ((![v1371] : Fin 1 → IVec S16 32) a x).toNat < S1024.size a := fun v1371 k0_hw164 => k0_hw164
def k0_off167 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk165 (v1382 : IVec S16 32) : Prop :=
  (∀ a x, ((![v1382] : Fin 1 → IVec S16 32) a x).toNat < S1024.size a)
theorem k0_idx165_inb : ∀ (v1382 : IVec S16 32) (k0_hw165 : k0_chk165 v1382), ∀ a x, ((![v1382] : Fin 1 → IVec S16 32) a x).toNat < S1024.size a := fun v1382 k0_hw165 => k0_hw165
def k0_off168 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk166 (v1393 : IVec S16 32) : Prop :=
  (∀ a x, ((![v1393] : Fin 1 → IVec S16 32) a x).toNat < S1024.size a)
theorem k0_idx166_inb : ∀ (v1393 : IVec S16 32) (k0_hw166 : k0_chk166 v1393), ∀ a x, ((![v1393] : Fin 1 → IVec S16 32) a x).toNat < S1024.size a := fun v1393 k0_hw166 => k0_hw166
def k0_off169 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk167 (v1404 : IVec S16 32) : Prop :=
  (∀ a x, ((![v1404] : Fin 1 → IVec S16 32) a x).toNat < S1024.size a)
theorem k0_idx167_inb : ∀ (v1404 : IVec S16 32) (k0_hw167 : k0_chk167 v1404), ∀ a x, ((![v1404] : Fin 1 → IVec S16 32) a x).toNat < S1024.size a := fun v1404 k0_hw167 => k0_hw167
def k0_off170 (k0_t21 : Fin k0_t21_loop.trips) : Fin 1 → Nat :=
  let c0_i32_394 : BitVec 32 := 0#32
  let c1_i32_396 : BitVec 32 := 1#32
  let arg7 : BitVec 32 := Scf.iv c0_i32_394 c1_i32_396 k0_t21
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk168 (v1415 : IVec S16 32) : Prop :=
  (∀ a x, ((![v1415] : Fin 1 → IVec S16 32) a x).toNat < S1024.size a)
theorem k0_idx168_inb : ∀ (v1415 : IVec S16 32) (k0_hw168 : k0_chk168 v1415), ∀ a x, ((![v1415] : Fin 1 → IVec S16 32) a x).toNat < S1024.size a := fun v1415 k0_hw168 => k0_hw168
@[reducible] def k0_t22_loop : Scf.Loop 32 :=
  let c0_i32_400 : BitVec 32 := 0#32
  let c256_i32_401 : BitVec 32 := 256#32
  let v525 : BitVec 32 := Scalar.addi c0_i32_400 c256_i32_401
  let c1_i32_402 : BitVec 32 := 1#32
  ⟨c0_i32_400, v525, c1_i32_402⟩
def k0_off171 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk169 (v1338 : IVec S16 32) : Prop :=
  (∀ a x, ((![v1338] : Fin 1 → IVec S16 32) a x).toNat < S1024.size a)
theorem k0_idx169_inb : ∀ (v1338 : IVec S16 32) (k0_hw169 : k0_chk169 v1338), ∀ a x, ((![v1338] : Fin 1 → IVec S16 32) a x).toNat < S1024.size a := fun v1338 k0_hw169 => k0_hw169
def k0_off172 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk170 (v1349 : IVec S16 32) : Prop :=
  (∀ a x, ((![v1349] : Fin 1 → IVec S16 32) a x).toNat < S1024.size a)
theorem k0_idx170_inb : ∀ (v1349 : IVec S16 32) (k0_hw170 : k0_chk170 v1349), ∀ a x, ((![v1349] : Fin 1 → IVec S16 32) a x).toNat < S1024.size a := fun v1349 k0_hw170 => k0_hw170
def k0_off173 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk171 (v1360 : IVec S16 32) : Prop :=
  (∀ a x, ((![v1360] : Fin 1 → IVec S16 32) a x).toNat < S1024.size a)
theorem k0_idx171_inb : ∀ (v1360 : IVec S16 32) (k0_hw171 : k0_chk171 v1360), ∀ a x, ((![v1360] : Fin 1 → IVec S16 32) a x).toNat < S1024.size a := fun v1360 k0_hw171 => k0_hw171
def k0_off174 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk172 (v1371 : IVec S16 32) : Prop :=
  (∀ a x, ((![v1371] : Fin 1 → IVec S16 32) a x).toNat < S1024.size a)
theorem k0_idx172_inb : ∀ (v1371 : IVec S16 32) (k0_hw172 : k0_chk172 v1371), ∀ a x, ((![v1371] : Fin 1 → IVec S16 32) a x).toNat < S1024.size a := fun v1371 k0_hw172 => k0_hw172
def k0_off175 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk173 (v1382 : IVec S16 32) : Prop :=
  (∀ a x, ((![v1382] : Fin 1 → IVec S16 32) a x).toNat < S1024.size a)
theorem k0_idx173_inb : ∀ (v1382 : IVec S16 32) (k0_hw173 : k0_chk173 v1382), ∀ a x, ((![v1382] : Fin 1 → IVec S16 32) a x).toNat < S1024.size a := fun v1382 k0_hw173 => k0_hw173
def k0_off176 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk174 (v1393 : IVec S16 32) : Prop :=
  (∀ a x, ((![v1393] : Fin 1 → IVec S16 32) a x).toNat < S1024.size a)
theorem k0_idx174_inb : ∀ (v1393 : IVec S16 32) (k0_hw174 : k0_chk174 v1393), ∀ a x, ((![v1393] : Fin 1 → IVec S16 32) a x).toNat < S1024.size a := fun v1393 k0_hw174 => k0_hw174
def k0_off177 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk175 (v1404 : IVec S16 32) : Prop :=
  (∀ a x, ((![v1404] : Fin 1 → IVec S16 32) a x).toNat < S1024.size a)
theorem k0_idx175_inb : ∀ (v1404 : IVec S16 32) (k0_hw175 : k0_chk175 v1404), ∀ a x, ((![v1404] : Fin 1 → IVec S16 32) a x).toNat < S1024.size a := fun v1404 k0_hw175 => k0_hw175
def k0_off178 (k0_t22 : Fin k0_t22_loop.trips) : Fin 1 → Nat :=
  let c0_i32_400 : BitVec 32 := 0#32
  let c1_i32_402 : BitVec 32 := 1#32
  let arg7 : BitVec 32 := Scf.iv c0_i32_400 c1_i32_402 k0_t22
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk176 (v1415 : IVec S16 32) : Prop :=
  (∀ a x, ((![v1415] : Fin 1 → IVec S16 32) a x).toNat < S1024.size a)
theorem k0_idx176_inb : ∀ (v1415 : IVec S16 32) (k0_hw176 : k0_chk176 v1415), ∀ a x, ((![v1415] : Fin 1 → IVec S16 32) a x).toNat < S1024.size a := fun v1415 k0_hw176 => k0_hw176
@[reducible] def k0_t23_loop : Scf.Loop 32 :=
  let c0_i32_406 : BitVec 32 := 0#32
  let c256_i32_407 : BitVec 32 := 256#32
  let v527 : BitVec 32 := Scalar.addi c0_i32_406 c256_i32_407
  let c1_i32_408 : BitVec 32 := 1#32
  ⟨c0_i32_406, v527, c1_i32_408⟩
def k0_off179 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk177 (v1338 : IVec S16 32) : Prop :=
  (∀ a x, ((![v1338] : Fin 1 → IVec S16 32) a x).toNat < S1024.size a)
theorem k0_idx177_inb : ∀ (v1338 : IVec S16 32) (k0_hw177 : k0_chk177 v1338), ∀ a x, ((![v1338] : Fin 1 → IVec S16 32) a x).toNat < S1024.size a := fun v1338 k0_hw177 => k0_hw177
def k0_off180 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk178 (v1349 : IVec S16 32) : Prop :=
  (∀ a x, ((![v1349] : Fin 1 → IVec S16 32) a x).toNat < S1024.size a)
theorem k0_idx178_inb : ∀ (v1349 : IVec S16 32) (k0_hw178 : k0_chk178 v1349), ∀ a x, ((![v1349] : Fin 1 → IVec S16 32) a x).toNat < S1024.size a := fun v1349 k0_hw178 => k0_hw178
def k0_off181 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk179 (v1360 : IVec S16 32) : Prop :=
  (∀ a x, ((![v1360] : Fin 1 → IVec S16 32) a x).toNat < S1024.size a)
theorem k0_idx179_inb : ∀ (v1360 : IVec S16 32) (k0_hw179 : k0_chk179 v1360), ∀ a x, ((![v1360] : Fin 1 → IVec S16 32) a x).toNat < S1024.size a := fun v1360 k0_hw179 => k0_hw179
def k0_off182 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk180 (v1371 : IVec S16 32) : Prop :=
  (∀ a x, ((![v1371] : Fin 1 → IVec S16 32) a x).toNat < S1024.size a)
theorem k0_idx180_inb : ∀ (v1371 : IVec S16 32) (k0_hw180 : k0_chk180 v1371), ∀ a x, ((![v1371] : Fin 1 → IVec S16 32) a x).toNat < S1024.size a := fun v1371 k0_hw180 => k0_hw180
def k0_off183 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk181 (v1382 : IVec S16 32) : Prop :=
  (∀ a x, ((![v1382] : Fin 1 → IVec S16 32) a x).toNat < S1024.size a)
theorem k0_idx181_inb : ∀ (v1382 : IVec S16 32) (k0_hw181 : k0_chk181 v1382), ∀ a x, ((![v1382] : Fin 1 → IVec S16 32) a x).toNat < S1024.size a := fun v1382 k0_hw181 => k0_hw181
def k0_off184 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk182 (v1393 : IVec S16 32) : Prop :=
  (∀ a x, ((![v1393] : Fin 1 → IVec S16 32) a x).toNat < S1024.size a)
theorem k0_idx182_inb : ∀ (v1393 : IVec S16 32) (k0_hw182 : k0_chk182 v1393), ∀ a x, ((![v1393] : Fin 1 → IVec S16 32) a x).toNat < S1024.size a := fun v1393 k0_hw182 => k0_hw182
def k0_off185 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk183 (v1404 : IVec S16 32) : Prop :=
  (∀ a x, ((![v1404] : Fin 1 → IVec S16 32) a x).toNat < S1024.size a)
theorem k0_idx183_inb : ∀ (v1404 : IVec S16 32) (k0_hw183 : k0_chk183 v1404), ∀ a x, ((![v1404] : Fin 1 → IVec S16 32) a x).toNat < S1024.size a := fun v1404 k0_hw183 => k0_hw183
def k0_off186 (k0_t23 : Fin k0_t23_loop.trips) : Fin 1 → Nat :=
  let c0_i32_406 : BitVec 32 := 0#32
  let c1_i32_408 : BitVec 32 := 1#32
  let arg7 : BitVec 32 := Scf.iv c0_i32_406 c1_i32_408 k0_t23
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk184 (v1415 : IVec S16 32) : Prop :=
  (∀ a x, ((![v1415] : Fin 1 → IVec S16 32) a x).toNat < S1024.size a)
theorem k0_idx184_inb : ∀ (v1415 : IVec S16 32) (k0_hw184 : k0_chk184 v1415), ∀ a x, ((![v1415] : Fin 1 → IVec S16 32) a x).toNat < S1024.size a := fun v1415 k0_hw184 => k0_hw184
@[reducible] def k0_t24_loop : Scf.Loop 32 :=
  let c0_i32_412 : BitVec 32 := 0#32
  let c256_i32_413 : BitVec 32 := 256#32
  let v529 : BitVec 32 := Scalar.addi c0_i32_412 c256_i32_413
  let c1_i32_414 : BitVec 32 := 1#32
  ⟨c0_i32_412, v529, c1_i32_414⟩
def k0_off187 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk185 (v1338 : IVec S16 32) : Prop :=
  (∀ a x, ((![v1338] : Fin 1 → IVec S16 32) a x).toNat < S1024.size a)
theorem k0_idx185_inb : ∀ (v1338 : IVec S16 32) (k0_hw185 : k0_chk185 v1338), ∀ a x, ((![v1338] : Fin 1 → IVec S16 32) a x).toNat < S1024.size a := fun v1338 k0_hw185 => k0_hw185
def k0_off188 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk186 (v1349 : IVec S16 32) : Prop :=
  (∀ a x, ((![v1349] : Fin 1 → IVec S16 32) a x).toNat < S1024.size a)
theorem k0_idx186_inb : ∀ (v1349 : IVec S16 32) (k0_hw186 : k0_chk186 v1349), ∀ a x, ((![v1349] : Fin 1 → IVec S16 32) a x).toNat < S1024.size a := fun v1349 k0_hw186 => k0_hw186
def k0_off189 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk187 (v1360 : IVec S16 32) : Prop :=
  (∀ a x, ((![v1360] : Fin 1 → IVec S16 32) a x).toNat < S1024.size a)
theorem k0_idx187_inb : ∀ (v1360 : IVec S16 32) (k0_hw187 : k0_chk187 v1360), ∀ a x, ((![v1360] : Fin 1 → IVec S16 32) a x).toNat < S1024.size a := fun v1360 k0_hw187 => k0_hw187
def k0_off190 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk188 (v1371 : IVec S16 32) : Prop :=
  (∀ a x, ((![v1371] : Fin 1 → IVec S16 32) a x).toNat < S1024.size a)
theorem k0_idx188_inb : ∀ (v1371 : IVec S16 32) (k0_hw188 : k0_chk188 v1371), ∀ a x, ((![v1371] : Fin 1 → IVec S16 32) a x).toNat < S1024.size a := fun v1371 k0_hw188 => k0_hw188
def k0_off191 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk189 (v1382 : IVec S16 32) : Prop :=
  (∀ a x, ((![v1382] : Fin 1 → IVec S16 32) a x).toNat < S1024.size a)
theorem k0_idx189_inb : ∀ (v1382 : IVec S16 32) (k0_hw189 : k0_chk189 v1382), ∀ a x, ((![v1382] : Fin 1 → IVec S16 32) a x).toNat < S1024.size a := fun v1382 k0_hw189 => k0_hw189
def k0_off192 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk190 (v1393 : IVec S16 32) : Prop :=
  (∀ a x, ((![v1393] : Fin 1 → IVec S16 32) a x).toNat < S1024.size a)
theorem k0_idx190_inb : ∀ (v1393 : IVec S16 32) (k0_hw190 : k0_chk190 v1393), ∀ a x, ((![v1393] : Fin 1 → IVec S16 32) a x).toNat < S1024.size a := fun v1393 k0_hw190 => k0_hw190
def k0_off193 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk191 (v1404 : IVec S16 32) : Prop :=
  (∀ a x, ((![v1404] : Fin 1 → IVec S16 32) a x).toNat < S1024.size a)
theorem k0_idx191_inb : ∀ (v1404 : IVec S16 32) (k0_hw191 : k0_chk191 v1404), ∀ a x, ((![v1404] : Fin 1 → IVec S16 32) a x).toNat < S1024.size a := fun v1404 k0_hw191 => k0_hw191
def k0_off194 (k0_t24 : Fin k0_t24_loop.trips) : Fin 1 → Nat :=
  let c0_i32_412 : BitVec 32 := 0#32
  let c1_i32_414 : BitVec 32 := 1#32
  let arg7 : BitVec 32 := Scf.iv c0_i32_412 c1_i32_414 k0_t24
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk192 (v1415 : IVec S16 32) : Prop :=
  (∀ a x, ((![v1415] : Fin 1 → IVec S16 32) a x).toNat < S1024.size a)
theorem k0_idx192_inb : ∀ (v1415 : IVec S16 32) (k0_hw192 : k0_chk192 v1415), ∀ a x, ((![v1415] : Fin 1 → IVec S16 32) a x).toNat < S1024.size a := fun v1415 k0_hw192 => k0_hw192
@[reducible] def k0_t25_loop : Scf.Loop 32 :=
  let c0_i32_557 : BitVec 32 := 0#32
  let c256_i32_558 : BitVec 32 := 256#32
  let v735 : BitVec 32 := Scalar.addi c0_i32_557 c256_i32_558
  let c1_i32_559 : BitVec 32 := 1#32
  ⟨c0_i32_557, v735, c1_i32_559⟩
def k0_off195 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk193 (v1338 : IVec S16 32) : Prop :=
  (∀ a x, ((![v1338] : Fin 1 → IVec S16 32) a x).toNat < S1024.size a)
theorem k0_idx193_inb : ∀ (v1338 : IVec S16 32) (k0_hw193 : k0_chk193 v1338), ∀ a x, ((![v1338] : Fin 1 → IVec S16 32) a x).toNat < S1024.size a := fun v1338 k0_hw193 => k0_hw193
def k0_off196 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk194 (v1349 : IVec S16 32) : Prop :=
  (∀ a x, ((![v1349] : Fin 1 → IVec S16 32) a x).toNat < S1024.size a)
theorem k0_idx194_inb : ∀ (v1349 : IVec S16 32) (k0_hw194 : k0_chk194 v1349), ∀ a x, ((![v1349] : Fin 1 → IVec S16 32) a x).toNat < S1024.size a := fun v1349 k0_hw194 => k0_hw194
def k0_off197 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk195 (v1360 : IVec S16 32) : Prop :=
  (∀ a x, ((![v1360] : Fin 1 → IVec S16 32) a x).toNat < S1024.size a)
theorem k0_idx195_inb : ∀ (v1360 : IVec S16 32) (k0_hw195 : k0_chk195 v1360), ∀ a x, ((![v1360] : Fin 1 → IVec S16 32) a x).toNat < S1024.size a := fun v1360 k0_hw195 => k0_hw195
def k0_off198 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk196 (v1371 : IVec S16 32) : Prop :=
  (∀ a x, ((![v1371] : Fin 1 → IVec S16 32) a x).toNat < S1024.size a)
theorem k0_idx196_inb : ∀ (v1371 : IVec S16 32) (k0_hw196 : k0_chk196 v1371), ∀ a x, ((![v1371] : Fin 1 → IVec S16 32) a x).toNat < S1024.size a := fun v1371 k0_hw196 => k0_hw196
def k0_off199 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk197 (v1382 : IVec S16 32) : Prop :=
  (∀ a x, ((![v1382] : Fin 1 → IVec S16 32) a x).toNat < S1024.size a)
theorem k0_idx197_inb : ∀ (v1382 : IVec S16 32) (k0_hw197 : k0_chk197 v1382), ∀ a x, ((![v1382] : Fin 1 → IVec S16 32) a x).toNat < S1024.size a := fun v1382 k0_hw197 => k0_hw197
def k0_off200 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk198 (v1393 : IVec S16 32) : Prop :=
  (∀ a x, ((![v1393] : Fin 1 → IVec S16 32) a x).toNat < S1024.size a)
theorem k0_idx198_inb : ∀ (v1393 : IVec S16 32) (k0_hw198 : k0_chk198 v1393), ∀ a x, ((![v1393] : Fin 1 → IVec S16 32) a x).toNat < S1024.size a := fun v1393 k0_hw198 => k0_hw198
def k0_off201 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk199 (v1404 : IVec S16 32) : Prop :=
  (∀ a x, ((![v1404] : Fin 1 → IVec S16 32) a x).toNat < S1024.size a)
theorem k0_idx199_inb : ∀ (v1404 : IVec S16 32) (k0_hw199 : k0_chk199 v1404), ∀ a x, ((![v1404] : Fin 1 → IVec S16 32) a x).toNat < S1024.size a := fun v1404 k0_hw199 => k0_hw199
def k0_off202 (k0_t25 : Fin k0_t25_loop.trips) : Fin 1 → Nat :=
  let c0_i32_557 : BitVec 32 := 0#32
  let c1_i32_559 : BitVec 32 := 1#32
  let arg7 : BitVec 32 := Scf.iv c0_i32_557 c1_i32_559 k0_t25
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk200 (v1415 : IVec S16 32) : Prop :=
  (∀ a x, ((![v1415] : Fin 1 → IVec S16 32) a x).toNat < S1024.size a)
theorem k0_idx200_inb : ∀ (v1415 : IVec S16 32) (k0_hw200 : k0_chk200 v1415), ∀ a x, ((![v1415] : Fin 1 → IVec S16 32) a x).toNat < S1024.size a := fun v1415 k0_hw200 => k0_hw200
@[reducible] def k0_t26_loop : Scf.Loop 32 :=
  let c0_i32_563 : BitVec 32 := 0#32
  let c256_i32_564 : BitVec 32 := 256#32
  let v737 : BitVec 32 := Scalar.addi c0_i32_563 c256_i32_564
  let c1_i32_565 : BitVec 32 := 1#32
  ⟨c0_i32_563, v737, c1_i32_565⟩
def k0_off203 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk201 (v1338 : IVec S16 32) : Prop :=
  (∀ a x, ((![v1338] : Fin 1 → IVec S16 32) a x).toNat < S1024.size a)
theorem k0_idx201_inb : ∀ (v1338 : IVec S16 32) (k0_hw201 : k0_chk201 v1338), ∀ a x, ((![v1338] : Fin 1 → IVec S16 32) a x).toNat < S1024.size a := fun v1338 k0_hw201 => k0_hw201
def k0_off204 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk202 (v1349 : IVec S16 32) : Prop :=
  (∀ a x, ((![v1349] : Fin 1 → IVec S16 32) a x).toNat < S1024.size a)
theorem k0_idx202_inb : ∀ (v1349 : IVec S16 32) (k0_hw202 : k0_chk202 v1349), ∀ a x, ((![v1349] : Fin 1 → IVec S16 32) a x).toNat < S1024.size a := fun v1349 k0_hw202 => k0_hw202
def k0_off205 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk203 (v1360 : IVec S16 32) : Prop :=
  (∀ a x, ((![v1360] : Fin 1 → IVec S16 32) a x).toNat < S1024.size a)
theorem k0_idx203_inb : ∀ (v1360 : IVec S16 32) (k0_hw203 : k0_chk203 v1360), ∀ a x, ((![v1360] : Fin 1 → IVec S16 32) a x).toNat < S1024.size a := fun v1360 k0_hw203 => k0_hw203
def k0_off206 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk204 (v1371 : IVec S16 32) : Prop :=
  (∀ a x, ((![v1371] : Fin 1 → IVec S16 32) a x).toNat < S1024.size a)
theorem k0_idx204_inb : ∀ (v1371 : IVec S16 32) (k0_hw204 : k0_chk204 v1371), ∀ a x, ((![v1371] : Fin 1 → IVec S16 32) a x).toNat < S1024.size a := fun v1371 k0_hw204 => k0_hw204
def k0_off207 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk205 (v1382 : IVec S16 32) : Prop :=
  (∀ a x, ((![v1382] : Fin 1 → IVec S16 32) a x).toNat < S1024.size a)
theorem k0_idx205_inb : ∀ (v1382 : IVec S16 32) (k0_hw205 : k0_chk205 v1382), ∀ a x, ((![v1382] : Fin 1 → IVec S16 32) a x).toNat < S1024.size a := fun v1382 k0_hw205 => k0_hw205
def k0_off208 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk206 (v1393 : IVec S16 32) : Prop :=
  (∀ a x, ((![v1393] : Fin 1 → IVec S16 32) a x).toNat < S1024.size a)
theorem k0_idx206_inb : ∀ (v1393 : IVec S16 32) (k0_hw206 : k0_chk206 v1393), ∀ a x, ((![v1393] : Fin 1 → IVec S16 32) a x).toNat < S1024.size a := fun v1393 k0_hw206 => k0_hw206
def k0_off209 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk207 (v1404 : IVec S16 32) : Prop :=
  (∀ a x, ((![v1404] : Fin 1 → IVec S16 32) a x).toNat < S1024.size a)
theorem k0_idx207_inb : ∀ (v1404 : IVec S16 32) (k0_hw207 : k0_chk207 v1404), ∀ a x, ((![v1404] : Fin 1 → IVec S16 32) a x).toNat < S1024.size a := fun v1404 k0_hw207 => k0_hw207
def k0_off210 (k0_t26 : Fin k0_t26_loop.trips) : Fin 1 → Nat :=
  let c0_i32_563 : BitVec 32 := 0#32
  let c1_i32_565 : BitVec 32 := 1#32
  let arg7 : BitVec 32 := Scf.iv c0_i32_563 c1_i32_565 k0_t26
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk208 (v1415 : IVec S16 32) : Prop :=
  (∀ a x, ((![v1415] : Fin 1 → IVec S16 32) a x).toNat < S1024.size a)
theorem k0_idx208_inb : ∀ (v1415 : IVec S16 32) (k0_hw208 : k0_chk208 v1415), ∀ a x, ((![v1415] : Fin 1 → IVec S16 32) a x).toNat < S1024.size a := fun v1415 k0_hw208 => k0_hw208
@[reducible] def k0_t27_loop : Scf.Loop 32 :=
  let c0_i32_569 : BitVec 32 := 0#32
  let c256_i32_570 : BitVec 32 := 256#32
  let v739 : BitVec 32 := Scalar.addi c0_i32_569 c256_i32_570
  let c1_i32_571 : BitVec 32 := 1#32
  ⟨c0_i32_569, v739, c1_i32_571⟩
def k0_off211 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk209 (v1338 : IVec S16 32) : Prop :=
  (∀ a x, ((![v1338] : Fin 1 → IVec S16 32) a x).toNat < S1024.size a)
theorem k0_idx209_inb : ∀ (v1338 : IVec S16 32) (k0_hw209 : k0_chk209 v1338), ∀ a x, ((![v1338] : Fin 1 → IVec S16 32) a x).toNat < S1024.size a := fun v1338 k0_hw209 => k0_hw209
def k0_off212 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk210 (v1349 : IVec S16 32) : Prop :=
  (∀ a x, ((![v1349] : Fin 1 → IVec S16 32) a x).toNat < S1024.size a)
theorem k0_idx210_inb : ∀ (v1349 : IVec S16 32) (k0_hw210 : k0_chk210 v1349), ∀ a x, ((![v1349] : Fin 1 → IVec S16 32) a x).toNat < S1024.size a := fun v1349 k0_hw210 => k0_hw210
def k0_off213 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk211 (v1360 : IVec S16 32) : Prop :=
  (∀ a x, ((![v1360] : Fin 1 → IVec S16 32) a x).toNat < S1024.size a)
theorem k0_idx211_inb : ∀ (v1360 : IVec S16 32) (k0_hw211 : k0_chk211 v1360), ∀ a x, ((![v1360] : Fin 1 → IVec S16 32) a x).toNat < S1024.size a := fun v1360 k0_hw211 => k0_hw211
def k0_off214 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk212 (v1371 : IVec S16 32) : Prop :=
  (∀ a x, ((![v1371] : Fin 1 → IVec S16 32) a x).toNat < S1024.size a)
theorem k0_idx212_inb : ∀ (v1371 : IVec S16 32) (k0_hw212 : k0_chk212 v1371), ∀ a x, ((![v1371] : Fin 1 → IVec S16 32) a x).toNat < S1024.size a := fun v1371 k0_hw212 => k0_hw212
def k0_off215 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk213 (v1382 : IVec S16 32) : Prop :=
  (∀ a x, ((![v1382] : Fin 1 → IVec S16 32) a x).toNat < S1024.size a)
theorem k0_idx213_inb : ∀ (v1382 : IVec S16 32) (k0_hw213 : k0_chk213 v1382), ∀ a x, ((![v1382] : Fin 1 → IVec S16 32) a x).toNat < S1024.size a := fun v1382 k0_hw213 => k0_hw213
def k0_off216 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk214 (v1393 : IVec S16 32) : Prop :=
  (∀ a x, ((![v1393] : Fin 1 → IVec S16 32) a x).toNat < S1024.size a)
theorem k0_idx214_inb : ∀ (v1393 : IVec S16 32) (k0_hw214 : k0_chk214 v1393), ∀ a x, ((![v1393] : Fin 1 → IVec S16 32) a x).toNat < S1024.size a := fun v1393 k0_hw214 => k0_hw214
def k0_off217 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk215 (v1404 : IVec S16 32) : Prop :=
  (∀ a x, ((![v1404] : Fin 1 → IVec S16 32) a x).toNat < S1024.size a)
theorem k0_idx215_inb : ∀ (v1404 : IVec S16 32) (k0_hw215 : k0_chk215 v1404), ∀ a x, ((![v1404] : Fin 1 → IVec S16 32) a x).toNat < S1024.size a := fun v1404 k0_hw215 => k0_hw215
def k0_off218 (k0_t27 : Fin k0_t27_loop.trips) : Fin 1 → Nat :=
  let c0_i32_569 : BitVec 32 := 0#32
  let c1_i32_571 : BitVec 32 := 1#32
  let arg7 : BitVec 32 := Scf.iv c0_i32_569 c1_i32_571 k0_t27
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk216 (v1415 : IVec S16 32) : Prop :=
  (∀ a x, ((![v1415] : Fin 1 → IVec S16 32) a x).toNat < S1024.size a)
theorem k0_idx216_inb : ∀ (v1415 : IVec S16 32) (k0_hw216 : k0_chk216 v1415), ∀ a x, ((![v1415] : Fin 1 → IVec S16 32) a x).toNat < S1024.size a := fun v1415 k0_hw216 => k0_hw216
@[reducible] def k0_t28_loop : Scf.Loop 32 :=
  let c0_i32_575 : BitVec 32 := 0#32
  let c256_i32_576 : BitVec 32 := 256#32
  let v741 : BitVec 32 := Scalar.addi c0_i32_575 c256_i32_576
  let c1_i32_577 : BitVec 32 := 1#32
  ⟨c0_i32_575, v741, c1_i32_577⟩
def k0_off219 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk217 (v1338 : IVec S16 32) : Prop :=
  (∀ a x, ((![v1338] : Fin 1 → IVec S16 32) a x).toNat < S1024.size a)
theorem k0_idx217_inb : ∀ (v1338 : IVec S16 32) (k0_hw217 : k0_chk217 v1338), ∀ a x, ((![v1338] : Fin 1 → IVec S16 32) a x).toNat < S1024.size a := fun v1338 k0_hw217 => k0_hw217
def k0_off220 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk218 (v1349 : IVec S16 32) : Prop :=
  (∀ a x, ((![v1349] : Fin 1 → IVec S16 32) a x).toNat < S1024.size a)
theorem k0_idx218_inb : ∀ (v1349 : IVec S16 32) (k0_hw218 : k0_chk218 v1349), ∀ a x, ((![v1349] : Fin 1 → IVec S16 32) a x).toNat < S1024.size a := fun v1349 k0_hw218 => k0_hw218
def k0_off221 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk219 (v1360 : IVec S16 32) : Prop :=
  (∀ a x, ((![v1360] : Fin 1 → IVec S16 32) a x).toNat < S1024.size a)
theorem k0_idx219_inb : ∀ (v1360 : IVec S16 32) (k0_hw219 : k0_chk219 v1360), ∀ a x, ((![v1360] : Fin 1 → IVec S16 32) a x).toNat < S1024.size a := fun v1360 k0_hw219 => k0_hw219
def k0_off222 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk220 (v1371 : IVec S16 32) : Prop :=
  (∀ a x, ((![v1371] : Fin 1 → IVec S16 32) a x).toNat < S1024.size a)
theorem k0_idx220_inb : ∀ (v1371 : IVec S16 32) (k0_hw220 : k0_chk220 v1371), ∀ a x, ((![v1371] : Fin 1 → IVec S16 32) a x).toNat < S1024.size a := fun v1371 k0_hw220 => k0_hw220
def k0_off223 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk221 (v1382 : IVec S16 32) : Prop :=
  (∀ a x, ((![v1382] : Fin 1 → IVec S16 32) a x).toNat < S1024.size a)
theorem k0_idx221_inb : ∀ (v1382 : IVec S16 32) (k0_hw221 : k0_chk221 v1382), ∀ a x, ((![v1382] : Fin 1 → IVec S16 32) a x).toNat < S1024.size a := fun v1382 k0_hw221 => k0_hw221
def k0_off224 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk222 (v1393 : IVec S16 32) : Prop :=
  (∀ a x, ((![v1393] : Fin 1 → IVec S16 32) a x).toNat < S1024.size a)
theorem k0_idx222_inb : ∀ (v1393 : IVec S16 32) (k0_hw222 : k0_chk222 v1393), ∀ a x, ((![v1393] : Fin 1 → IVec S16 32) a x).toNat < S1024.size a := fun v1393 k0_hw222 => k0_hw222
def k0_off225 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk223 (v1404 : IVec S16 32) : Prop :=
  (∀ a x, ((![v1404] : Fin 1 → IVec S16 32) a x).toNat < S1024.size a)
theorem k0_idx223_inb : ∀ (v1404 : IVec S16 32) (k0_hw223 : k0_chk223 v1404), ∀ a x, ((![v1404] : Fin 1 → IVec S16 32) a x).toNat < S1024.size a := fun v1404 k0_hw223 => k0_hw223
def k0_off226 (k0_t28 : Fin k0_t28_loop.trips) : Fin 1 → Nat :=
  let c0_i32_575 : BitVec 32 := 0#32
  let c1_i32_577 : BitVec 32 := 1#32
  let arg7 : BitVec 32 := Scf.iv c0_i32_575 c1_i32_577 k0_t28
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk224 (v1415 : IVec S16 32) : Prop :=
  (∀ a x, ((![v1415] : Fin 1 → IVec S16 32) a x).toNat < S1024.size a)
theorem k0_idx224_inb : ∀ (v1415 : IVec S16 32) (k0_hw224 : k0_chk224 v1415), ∀ a x, ((![v1415] : Fin 1 → IVec S16 32) a x).toNat < S1024.size a := fun v1415 k0_hw224 => k0_hw224
@[reducible] def k0_t29_loop : Scf.Loop 32 :=
  let c0_i32_581 : BitVec 32 := 0#32
  let c256_i32_582 : BitVec 32 := 256#32
  let v743 : BitVec 32 := Scalar.addi c0_i32_581 c256_i32_582
  let c1_i32_583 : BitVec 32 := 1#32
  ⟨c0_i32_581, v743, c1_i32_583⟩
def k0_off227 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk225 (v1338 : IVec S16 32) : Prop :=
  (∀ a x, ((![v1338] : Fin 1 → IVec S16 32) a x).toNat < S1024.size a)
theorem k0_idx225_inb : ∀ (v1338 : IVec S16 32) (k0_hw225 : k0_chk225 v1338), ∀ a x, ((![v1338] : Fin 1 → IVec S16 32) a x).toNat < S1024.size a := fun v1338 k0_hw225 => k0_hw225
def k0_off228 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk226 (v1349 : IVec S16 32) : Prop :=
  (∀ a x, ((![v1349] : Fin 1 → IVec S16 32) a x).toNat < S1024.size a)
theorem k0_idx226_inb : ∀ (v1349 : IVec S16 32) (k0_hw226 : k0_chk226 v1349), ∀ a x, ((![v1349] : Fin 1 → IVec S16 32) a x).toNat < S1024.size a := fun v1349 k0_hw226 => k0_hw226
def k0_off229 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk227 (v1360 : IVec S16 32) : Prop :=
  (∀ a x, ((![v1360] : Fin 1 → IVec S16 32) a x).toNat < S1024.size a)
theorem k0_idx227_inb : ∀ (v1360 : IVec S16 32) (k0_hw227 : k0_chk227 v1360), ∀ a x, ((![v1360] : Fin 1 → IVec S16 32) a x).toNat < S1024.size a := fun v1360 k0_hw227 => k0_hw227
def k0_off230 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk228 (v1371 : IVec S16 32) : Prop :=
  (∀ a x, ((![v1371] : Fin 1 → IVec S16 32) a x).toNat < S1024.size a)
theorem k0_idx228_inb : ∀ (v1371 : IVec S16 32) (k0_hw228 : k0_chk228 v1371), ∀ a x, ((![v1371] : Fin 1 → IVec S16 32) a x).toNat < S1024.size a := fun v1371 k0_hw228 => k0_hw228
def k0_off231 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk229 (v1382 : IVec S16 32) : Prop :=
  (∀ a x, ((![v1382] : Fin 1 → IVec S16 32) a x).toNat < S1024.size a)
theorem k0_idx229_inb : ∀ (v1382 : IVec S16 32) (k0_hw229 : k0_chk229 v1382), ∀ a x, ((![v1382] : Fin 1 → IVec S16 32) a x).toNat < S1024.size a := fun v1382 k0_hw229 => k0_hw229
def k0_off232 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk230 (v1393 : IVec S16 32) : Prop :=
  (∀ a x, ((![v1393] : Fin 1 → IVec S16 32) a x).toNat < S1024.size a)
theorem k0_idx230_inb : ∀ (v1393 : IVec S16 32) (k0_hw230 : k0_chk230 v1393), ∀ a x, ((![v1393] : Fin 1 → IVec S16 32) a x).toNat < S1024.size a := fun v1393 k0_hw230 => k0_hw230
def k0_off233 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk231 (v1404 : IVec S16 32) : Prop :=
  (∀ a x, ((![v1404] : Fin 1 → IVec S16 32) a x).toNat < S1024.size a)
theorem k0_idx231_inb : ∀ (v1404 : IVec S16 32) (k0_hw231 : k0_chk231 v1404), ∀ a x, ((![v1404] : Fin 1 → IVec S16 32) a x).toNat < S1024.size a := fun v1404 k0_hw231 => k0_hw231
def k0_off234 (k0_t29 : Fin k0_t29_loop.trips) : Fin 1 → Nat :=
  let c0_i32_581 : BitVec 32 := 0#32
  let c1_i32_583 : BitVec 32 := 1#32
  let arg7 : BitVec 32 := Scf.iv c0_i32_581 c1_i32_583 k0_t29
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk232 (v1415 : IVec S16 32) : Prop :=
  (∀ a x, ((![v1415] : Fin 1 → IVec S16 32) a x).toNat < S1024.size a)
theorem k0_idx232_inb : ∀ (v1415 : IVec S16 32) (k0_hw232 : k0_chk232 v1415), ∀ a x, ((![v1415] : Fin 1 → IVec S16 32) a x).toNat < S1024.size a := fun v1415 k0_hw232 => k0_hw232
@[reducible] def k0_t30_loop : Scf.Loop 32 :=
  let c0_i32_587 : BitVec 32 := 0#32
  let c256_i32_588 : BitVec 32 := 256#32
  let v745 : BitVec 32 := Scalar.addi c0_i32_587 c256_i32_588
  let c1_i32_589 : BitVec 32 := 1#32
  ⟨c0_i32_587, v745, c1_i32_589⟩
def k0_off235 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk233 (v1338 : IVec S16 32) : Prop :=
  (∀ a x, ((![v1338] : Fin 1 → IVec S16 32) a x).toNat < S1024.size a)
theorem k0_idx233_inb : ∀ (v1338 : IVec S16 32) (k0_hw233 : k0_chk233 v1338), ∀ a x, ((![v1338] : Fin 1 → IVec S16 32) a x).toNat < S1024.size a := fun v1338 k0_hw233 => k0_hw233
def k0_off236 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk234 (v1349 : IVec S16 32) : Prop :=
  (∀ a x, ((![v1349] : Fin 1 → IVec S16 32) a x).toNat < S1024.size a)
theorem k0_idx234_inb : ∀ (v1349 : IVec S16 32) (k0_hw234 : k0_chk234 v1349), ∀ a x, ((![v1349] : Fin 1 → IVec S16 32) a x).toNat < S1024.size a := fun v1349 k0_hw234 => k0_hw234
def k0_off237 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk235 (v1360 : IVec S16 32) : Prop :=
  (∀ a x, ((![v1360] : Fin 1 → IVec S16 32) a x).toNat < S1024.size a)
theorem k0_idx235_inb : ∀ (v1360 : IVec S16 32) (k0_hw235 : k0_chk235 v1360), ∀ a x, ((![v1360] : Fin 1 → IVec S16 32) a x).toNat < S1024.size a := fun v1360 k0_hw235 => k0_hw235
def k0_off238 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk236 (v1371 : IVec S16 32) : Prop :=
  (∀ a x, ((![v1371] : Fin 1 → IVec S16 32) a x).toNat < S1024.size a)
theorem k0_idx236_inb : ∀ (v1371 : IVec S16 32) (k0_hw236 : k0_chk236 v1371), ∀ a x, ((![v1371] : Fin 1 → IVec S16 32) a x).toNat < S1024.size a := fun v1371 k0_hw236 => k0_hw236
def k0_off239 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk237 (v1382 : IVec S16 32) : Prop :=
  (∀ a x, ((![v1382] : Fin 1 → IVec S16 32) a x).toNat < S1024.size a)
theorem k0_idx237_inb : ∀ (v1382 : IVec S16 32) (k0_hw237 : k0_chk237 v1382), ∀ a x, ((![v1382] : Fin 1 → IVec S16 32) a x).toNat < S1024.size a := fun v1382 k0_hw237 => k0_hw237
def k0_off240 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk238 (v1393 : IVec S16 32) : Prop :=
  (∀ a x, ((![v1393] : Fin 1 → IVec S16 32) a x).toNat < S1024.size a)
theorem k0_idx238_inb : ∀ (v1393 : IVec S16 32) (k0_hw238 : k0_chk238 v1393), ∀ a x, ((![v1393] : Fin 1 → IVec S16 32) a x).toNat < S1024.size a := fun v1393 k0_hw238 => k0_hw238
def k0_off241 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk239 (v1404 : IVec S16 32) : Prop :=
  (∀ a x, ((![v1404] : Fin 1 → IVec S16 32) a x).toNat < S1024.size a)
theorem k0_idx239_inb : ∀ (v1404 : IVec S16 32) (k0_hw239 : k0_chk239 v1404), ∀ a x, ((![v1404] : Fin 1 → IVec S16 32) a x).toNat < S1024.size a := fun v1404 k0_hw239 => k0_hw239
def k0_off242 (k0_t30 : Fin k0_t30_loop.trips) : Fin 1 → Nat :=
  let c0_i32_587 : BitVec 32 := 0#32
  let c1_i32_589 : BitVec 32 := 1#32
  let arg7 : BitVec 32 := Scf.iv c0_i32_587 c1_i32_589 k0_t30
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk240 (v1415 : IVec S16 32) : Prop :=
  (∀ a x, ((![v1415] : Fin 1 → IVec S16 32) a x).toNat < S1024.size a)
theorem k0_idx240_inb : ∀ (v1415 : IVec S16 32) (k0_hw240 : k0_chk240 v1415), ∀ a x, ((![v1415] : Fin 1 → IVec S16 32) a x).toNat < S1024.size a := fun v1415 k0_hw240 => k0_hw240
@[reducible] def k0_t31_loop : Scf.Loop 32 :=
  let c0_i32_593 : BitVec 32 := 0#32
  let c256_i32_594 : BitVec 32 := 256#32
  let v747 : BitVec 32 := Scalar.addi c0_i32_593 c256_i32_594
  let c1_i32_595 : BitVec 32 := 1#32
  ⟨c0_i32_593, v747, c1_i32_595⟩
def k0_off243 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk241 (v1338 : IVec S16 32) : Prop :=
  (∀ a x, ((![v1338] : Fin 1 → IVec S16 32) a x).toNat < S1024.size a)
theorem k0_idx241_inb : ∀ (v1338 : IVec S16 32) (k0_hw241 : k0_chk241 v1338), ∀ a x, ((![v1338] : Fin 1 → IVec S16 32) a x).toNat < S1024.size a := fun v1338 k0_hw241 => k0_hw241
def k0_off244 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk242 (v1349 : IVec S16 32) : Prop :=
  (∀ a x, ((![v1349] : Fin 1 → IVec S16 32) a x).toNat < S1024.size a)
theorem k0_idx242_inb : ∀ (v1349 : IVec S16 32) (k0_hw242 : k0_chk242 v1349), ∀ a x, ((![v1349] : Fin 1 → IVec S16 32) a x).toNat < S1024.size a := fun v1349 k0_hw242 => k0_hw242
def k0_off245 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk243 (v1360 : IVec S16 32) : Prop :=
  (∀ a x, ((![v1360] : Fin 1 → IVec S16 32) a x).toNat < S1024.size a)
theorem k0_idx243_inb : ∀ (v1360 : IVec S16 32) (k0_hw243 : k0_chk243 v1360), ∀ a x, ((![v1360] : Fin 1 → IVec S16 32) a x).toNat < S1024.size a := fun v1360 k0_hw243 => k0_hw243
def k0_off246 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk244 (v1371 : IVec S16 32) : Prop :=
  (∀ a x, ((![v1371] : Fin 1 → IVec S16 32) a x).toNat < S1024.size a)
theorem k0_idx244_inb : ∀ (v1371 : IVec S16 32) (k0_hw244 : k0_chk244 v1371), ∀ a x, ((![v1371] : Fin 1 → IVec S16 32) a x).toNat < S1024.size a := fun v1371 k0_hw244 => k0_hw244
def k0_off247 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk245 (v1382 : IVec S16 32) : Prop :=
  (∀ a x, ((![v1382] : Fin 1 → IVec S16 32) a x).toNat < S1024.size a)
theorem k0_idx245_inb : ∀ (v1382 : IVec S16 32) (k0_hw245 : k0_chk245 v1382), ∀ a x, ((![v1382] : Fin 1 → IVec S16 32) a x).toNat < S1024.size a := fun v1382 k0_hw245 => k0_hw245
def k0_off248 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk246 (v1393 : IVec S16 32) : Prop :=
  (∀ a x, ((![v1393] : Fin 1 → IVec S16 32) a x).toNat < S1024.size a)
theorem k0_idx246_inb : ∀ (v1393 : IVec S16 32) (k0_hw246 : k0_chk246 v1393), ∀ a x, ((![v1393] : Fin 1 → IVec S16 32) a x).toNat < S1024.size a := fun v1393 k0_hw246 => k0_hw246
def k0_off249 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk247 (v1404 : IVec S16 32) : Prop :=
  (∀ a x, ((![v1404] : Fin 1 → IVec S16 32) a x).toNat < S1024.size a)
theorem k0_idx247_inb : ∀ (v1404 : IVec S16 32) (k0_hw247 : k0_chk247 v1404), ∀ a x, ((![v1404] : Fin 1 → IVec S16 32) a x).toNat < S1024.size a := fun v1404 k0_hw247 => k0_hw247
def k0_off250 (k0_t31 : Fin k0_t31_loop.trips) : Fin 1 → Nat :=
  let c0_i32_593 : BitVec 32 := 0#32
  let c1_i32_595 : BitVec 32 := 1#32
  let arg7 : BitVec 32 := Scf.iv c0_i32_593 c1_i32_595 k0_t31
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk248 (v1415 : IVec S16 32) : Prop :=
  (∀ a x, ((![v1415] : Fin 1 → IVec S16 32) a x).toNat < S1024.size a)
theorem k0_idx248_inb : ∀ (v1415 : IVec S16 32) (k0_hw248 : k0_chk248 v1415), ∀ a x, ((![v1415] : Fin 1 → IVec S16 32) a x).toNat < S1024.size a := fun v1415 k0_hw248 => k0_hw248
@[reducible] def k0_t32_loop : Scf.Loop 32 :=
  let c0_i32_599 : BitVec 32 := 0#32
  let c256_i32_600 : BitVec 32 := 256#32
  let v749 : BitVec 32 := Scalar.addi c0_i32_599 c256_i32_600
  let c1_i32_601 : BitVec 32 := 1#32
  ⟨c0_i32_599, v749, c1_i32_601⟩
def k0_off251 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk249 (v1338 : IVec S16 32) : Prop :=
  (∀ a x, ((![v1338] : Fin 1 → IVec S16 32) a x).toNat < S1024.size a)
theorem k0_idx249_inb : ∀ (v1338 : IVec S16 32) (k0_hw249 : k0_chk249 v1338), ∀ a x, ((![v1338] : Fin 1 → IVec S16 32) a x).toNat < S1024.size a := fun v1338 k0_hw249 => k0_hw249
def k0_off252 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk250 (v1349 : IVec S16 32) : Prop :=
  (∀ a x, ((![v1349] : Fin 1 → IVec S16 32) a x).toNat < S1024.size a)
theorem k0_idx250_inb : ∀ (v1349 : IVec S16 32) (k0_hw250 : k0_chk250 v1349), ∀ a x, ((![v1349] : Fin 1 → IVec S16 32) a x).toNat < S1024.size a := fun v1349 k0_hw250 => k0_hw250
def k0_off253 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk251 (v1360 : IVec S16 32) : Prop :=
  (∀ a x, ((![v1360] : Fin 1 → IVec S16 32) a x).toNat < S1024.size a)
theorem k0_idx251_inb : ∀ (v1360 : IVec S16 32) (k0_hw251 : k0_chk251 v1360), ∀ a x, ((![v1360] : Fin 1 → IVec S16 32) a x).toNat < S1024.size a := fun v1360 k0_hw251 => k0_hw251
def k0_off254 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk252 (v1371 : IVec S16 32) : Prop :=
  (∀ a x, ((![v1371] : Fin 1 → IVec S16 32) a x).toNat < S1024.size a)
theorem k0_idx252_inb : ∀ (v1371 : IVec S16 32) (k0_hw252 : k0_chk252 v1371), ∀ a x, ((![v1371] : Fin 1 → IVec S16 32) a x).toNat < S1024.size a := fun v1371 k0_hw252 => k0_hw252
def k0_off255 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk253 (v1382 : IVec S16 32) : Prop :=
  (∀ a x, ((![v1382] : Fin 1 → IVec S16 32) a x).toNat < S1024.size a)
theorem k0_idx253_inb : ∀ (v1382 : IVec S16 32) (k0_hw253 : k0_chk253 v1382), ∀ a x, ((![v1382] : Fin 1 → IVec S16 32) a x).toNat < S1024.size a := fun v1382 k0_hw253 => k0_hw253
def k0_off256 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk254 (v1393 : IVec S16 32) : Prop :=
  (∀ a x, ((![v1393] : Fin 1 → IVec S16 32) a x).toNat < S1024.size a)
theorem k0_idx254_inb : ∀ (v1393 : IVec S16 32) (k0_hw254 : k0_chk254 v1393), ∀ a x, ((![v1393] : Fin 1 → IVec S16 32) a x).toNat < S1024.size a := fun v1393 k0_hw254 => k0_hw254
def k0_off257 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk255 (v1404 : IVec S16 32) : Prop :=
  (∀ a x, ((![v1404] : Fin 1 → IVec S16 32) a x).toNat < S1024.size a)
theorem k0_idx255_inb : ∀ (v1404 : IVec S16 32) (k0_hw255 : k0_chk255 v1404), ∀ a x, ((![v1404] : Fin 1 → IVec S16 32) a x).toNat < S1024.size a := fun v1404 k0_hw255 => k0_hw255
def k0_off258 (k0_t32 : Fin k0_t32_loop.trips) : Fin 1 → Nat :=
  let c0_i32_599 : BitVec 32 := 0#32
  let c1_i32_601 : BitVec 32 := 1#32
  let arg7 : BitVec 32 := Scf.iv c0_i32_599 c1_i32_601 k0_t32
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk256 (v1415 : IVec S16 32) : Prop :=
  (∀ a x, ((![v1415] : Fin 1 → IVec S16 32) a x).toNat < S1024.size a)
theorem k0_idx256_inb : ∀ (v1415 : IVec S16 32) (k0_hw256 : k0_chk256 v1415), ∀ a x, ((![v1415] : Fin 1 → IVec S16 32) a x).toNat < S1024.size a := fun v1415 k0_hw256 => k0_hw256
@[reducible] def k0_t33_loop : Scf.Loop 32 :=
  let c0_i32_744 : BitVec 32 := 0#32
  let c256_i32_745 : BitVec 32 := 256#32
  let v955 : BitVec 32 := Scalar.addi c0_i32_744 c256_i32_745
  let c1_i32_746 : BitVec 32 := 1#32
  ⟨c0_i32_744, v955, c1_i32_746⟩
def k0_off259 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk257 (v1338 : IVec S16 32) : Prop :=
  (∀ a x, ((![v1338] : Fin 1 → IVec S16 32) a x).toNat < S1024.size a)
theorem k0_idx257_inb : ∀ (v1338 : IVec S16 32) (k0_hw257 : k0_chk257 v1338), ∀ a x, ((![v1338] : Fin 1 → IVec S16 32) a x).toNat < S1024.size a := fun v1338 k0_hw257 => k0_hw257
def k0_off260 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk258 (v1349 : IVec S16 32) : Prop :=
  (∀ a x, ((![v1349] : Fin 1 → IVec S16 32) a x).toNat < S1024.size a)
theorem k0_idx258_inb : ∀ (v1349 : IVec S16 32) (k0_hw258 : k0_chk258 v1349), ∀ a x, ((![v1349] : Fin 1 → IVec S16 32) a x).toNat < S1024.size a := fun v1349 k0_hw258 => k0_hw258
def k0_off261 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk259 (v1360 : IVec S16 32) : Prop :=
  (∀ a x, ((![v1360] : Fin 1 → IVec S16 32) a x).toNat < S1024.size a)
theorem k0_idx259_inb : ∀ (v1360 : IVec S16 32) (k0_hw259 : k0_chk259 v1360), ∀ a x, ((![v1360] : Fin 1 → IVec S16 32) a x).toNat < S1024.size a := fun v1360 k0_hw259 => k0_hw259
def k0_off262 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk260 (v1371 : IVec S16 32) : Prop :=
  (∀ a x, ((![v1371] : Fin 1 → IVec S16 32) a x).toNat < S1024.size a)
theorem k0_idx260_inb : ∀ (v1371 : IVec S16 32) (k0_hw260 : k0_chk260 v1371), ∀ a x, ((![v1371] : Fin 1 → IVec S16 32) a x).toNat < S1024.size a := fun v1371 k0_hw260 => k0_hw260
def k0_off263 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk261 (v1382 : IVec S16 32) : Prop :=
  (∀ a x, ((![v1382] : Fin 1 → IVec S16 32) a x).toNat < S1024.size a)
theorem k0_idx261_inb : ∀ (v1382 : IVec S16 32) (k0_hw261 : k0_chk261 v1382), ∀ a x, ((![v1382] : Fin 1 → IVec S16 32) a x).toNat < S1024.size a := fun v1382 k0_hw261 => k0_hw261
def k0_off264 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk262 (v1393 : IVec S16 32) : Prop :=
  (∀ a x, ((![v1393] : Fin 1 → IVec S16 32) a x).toNat < S1024.size a)
theorem k0_idx262_inb : ∀ (v1393 : IVec S16 32) (k0_hw262 : k0_chk262 v1393), ∀ a x, ((![v1393] : Fin 1 → IVec S16 32) a x).toNat < S1024.size a := fun v1393 k0_hw262 => k0_hw262
def k0_off265 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk263 (v1404 : IVec S16 32) : Prop :=
  (∀ a x, ((![v1404] : Fin 1 → IVec S16 32) a x).toNat < S1024.size a)
theorem k0_idx263_inb : ∀ (v1404 : IVec S16 32) (k0_hw263 : k0_chk263 v1404), ∀ a x, ((![v1404] : Fin 1 → IVec S16 32) a x).toNat < S1024.size a := fun v1404 k0_hw263 => k0_hw263
def k0_off266 (k0_t33 : Fin k0_t33_loop.trips) : Fin 1 → Nat :=
  let c0_i32_744 : BitVec 32 := 0#32
  let c1_i32_746 : BitVec 32 := 1#32
  let arg7 : BitVec 32 := Scf.iv c0_i32_744 c1_i32_746 k0_t33
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk264 (v1415 : IVec S16 32) : Prop :=
  (∀ a x, ((![v1415] : Fin 1 → IVec S16 32) a x).toNat < S1024.size a)
theorem k0_idx264_inb : ∀ (v1415 : IVec S16 32) (k0_hw264 : k0_chk264 v1415), ∀ a x, ((![v1415] : Fin 1 → IVec S16 32) a x).toNat < S1024.size a := fun v1415 k0_hw264 => k0_hw264
@[reducible] def k0_t34_loop : Scf.Loop 32 :=
  let c0_i32_750 : BitVec 32 := 0#32
  let c256_i32_751 : BitVec 32 := 256#32
  let v957 : BitVec 32 := Scalar.addi c0_i32_750 c256_i32_751
  let c1_i32_752 : BitVec 32 := 1#32
  ⟨c0_i32_750, v957, c1_i32_752⟩
def k0_off267 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk265 (v1338 : IVec S16 32) : Prop :=
  (∀ a x, ((![v1338] : Fin 1 → IVec S16 32) a x).toNat < S1024.size a)
theorem k0_idx265_inb : ∀ (v1338 : IVec S16 32) (k0_hw265 : k0_chk265 v1338), ∀ a x, ((![v1338] : Fin 1 → IVec S16 32) a x).toNat < S1024.size a := fun v1338 k0_hw265 => k0_hw265
def k0_off268 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk266 (v1349 : IVec S16 32) : Prop :=
  (∀ a x, ((![v1349] : Fin 1 → IVec S16 32) a x).toNat < S1024.size a)
theorem k0_idx266_inb : ∀ (v1349 : IVec S16 32) (k0_hw266 : k0_chk266 v1349), ∀ a x, ((![v1349] : Fin 1 → IVec S16 32) a x).toNat < S1024.size a := fun v1349 k0_hw266 => k0_hw266
def k0_off269 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk267 (v1360 : IVec S16 32) : Prop :=
  (∀ a x, ((![v1360] : Fin 1 → IVec S16 32) a x).toNat < S1024.size a)
theorem k0_idx267_inb : ∀ (v1360 : IVec S16 32) (k0_hw267 : k0_chk267 v1360), ∀ a x, ((![v1360] : Fin 1 → IVec S16 32) a x).toNat < S1024.size a := fun v1360 k0_hw267 => k0_hw267
def k0_off270 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk268 (v1371 : IVec S16 32) : Prop :=
  (∀ a x, ((![v1371] : Fin 1 → IVec S16 32) a x).toNat < S1024.size a)
theorem k0_idx268_inb : ∀ (v1371 : IVec S16 32) (k0_hw268 : k0_chk268 v1371), ∀ a x, ((![v1371] : Fin 1 → IVec S16 32) a x).toNat < S1024.size a := fun v1371 k0_hw268 => k0_hw268
def k0_off271 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk269 (v1382 : IVec S16 32) : Prop :=
  (∀ a x, ((![v1382] : Fin 1 → IVec S16 32) a x).toNat < S1024.size a)
theorem k0_idx269_inb : ∀ (v1382 : IVec S16 32) (k0_hw269 : k0_chk269 v1382), ∀ a x, ((![v1382] : Fin 1 → IVec S16 32) a x).toNat < S1024.size a := fun v1382 k0_hw269 => k0_hw269
def k0_off272 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk270 (v1393 : IVec S16 32) : Prop :=
  (∀ a x, ((![v1393] : Fin 1 → IVec S16 32) a x).toNat < S1024.size a)
theorem k0_idx270_inb : ∀ (v1393 : IVec S16 32) (k0_hw270 : k0_chk270 v1393), ∀ a x, ((![v1393] : Fin 1 → IVec S16 32) a x).toNat < S1024.size a := fun v1393 k0_hw270 => k0_hw270
def k0_off273 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk271 (v1404 : IVec S16 32) : Prop :=
  (∀ a x, ((![v1404] : Fin 1 → IVec S16 32) a x).toNat < S1024.size a)
theorem k0_idx271_inb : ∀ (v1404 : IVec S16 32) (k0_hw271 : k0_chk271 v1404), ∀ a x, ((![v1404] : Fin 1 → IVec S16 32) a x).toNat < S1024.size a := fun v1404 k0_hw271 => k0_hw271
def k0_off274 (k0_t34 : Fin k0_t34_loop.trips) : Fin 1 → Nat :=
  let c0_i32_750 : BitVec 32 := 0#32
  let c1_i32_752 : BitVec 32 := 1#32
  let arg7 : BitVec 32 := Scf.iv c0_i32_750 c1_i32_752 k0_t34
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk272 (v1415 : IVec S16 32) : Prop :=
  (∀ a x, ((![v1415] : Fin 1 → IVec S16 32) a x).toNat < S1024.size a)
theorem k0_idx272_inb : ∀ (v1415 : IVec S16 32) (k0_hw272 : k0_chk272 v1415), ∀ a x, ((![v1415] : Fin 1 → IVec S16 32) a x).toNat < S1024.size a := fun v1415 k0_hw272 => k0_hw272
@[reducible] def k0_t35_loop : Scf.Loop 32 :=
  let c0_i32_756 : BitVec 32 := 0#32
  let c256_i32_757 : BitVec 32 := 256#32
  let v959 : BitVec 32 := Scalar.addi c0_i32_756 c256_i32_757
  let c1_i32_758 : BitVec 32 := 1#32
  ⟨c0_i32_756, v959, c1_i32_758⟩
def k0_off275 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk273 (v1338 : IVec S16 32) : Prop :=
  (∀ a x, ((![v1338] : Fin 1 → IVec S16 32) a x).toNat < S1024.size a)
theorem k0_idx273_inb : ∀ (v1338 : IVec S16 32) (k0_hw273 : k0_chk273 v1338), ∀ a x, ((![v1338] : Fin 1 → IVec S16 32) a x).toNat < S1024.size a := fun v1338 k0_hw273 => k0_hw273
def k0_off276 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk274 (v1349 : IVec S16 32) : Prop :=
  (∀ a x, ((![v1349] : Fin 1 → IVec S16 32) a x).toNat < S1024.size a)
theorem k0_idx274_inb : ∀ (v1349 : IVec S16 32) (k0_hw274 : k0_chk274 v1349), ∀ a x, ((![v1349] : Fin 1 → IVec S16 32) a x).toNat < S1024.size a := fun v1349 k0_hw274 => k0_hw274
def k0_off277 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk275 (v1360 : IVec S16 32) : Prop :=
  (∀ a x, ((![v1360] : Fin 1 → IVec S16 32) a x).toNat < S1024.size a)
theorem k0_idx275_inb : ∀ (v1360 : IVec S16 32) (k0_hw275 : k0_chk275 v1360), ∀ a x, ((![v1360] : Fin 1 → IVec S16 32) a x).toNat < S1024.size a := fun v1360 k0_hw275 => k0_hw275
def k0_off278 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk276 (v1371 : IVec S16 32) : Prop :=
  (∀ a x, ((![v1371] : Fin 1 → IVec S16 32) a x).toNat < S1024.size a)
theorem k0_idx276_inb : ∀ (v1371 : IVec S16 32) (k0_hw276 : k0_chk276 v1371), ∀ a x, ((![v1371] : Fin 1 → IVec S16 32) a x).toNat < S1024.size a := fun v1371 k0_hw276 => k0_hw276
def k0_off279 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk277 (v1382 : IVec S16 32) : Prop :=
  (∀ a x, ((![v1382] : Fin 1 → IVec S16 32) a x).toNat < S1024.size a)
theorem k0_idx277_inb : ∀ (v1382 : IVec S16 32) (k0_hw277 : k0_chk277 v1382), ∀ a x, ((![v1382] : Fin 1 → IVec S16 32) a x).toNat < S1024.size a := fun v1382 k0_hw277 => k0_hw277
def k0_off280 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk278 (v1393 : IVec S16 32) : Prop :=
  (∀ a x, ((![v1393] : Fin 1 → IVec S16 32) a x).toNat < S1024.size a)
theorem k0_idx278_inb : ∀ (v1393 : IVec S16 32) (k0_hw278 : k0_chk278 v1393), ∀ a x, ((![v1393] : Fin 1 → IVec S16 32) a x).toNat < S1024.size a := fun v1393 k0_hw278 => k0_hw278
def k0_off281 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk279 (v1404 : IVec S16 32) : Prop :=
  (∀ a x, ((![v1404] : Fin 1 → IVec S16 32) a x).toNat < S1024.size a)
theorem k0_idx279_inb : ∀ (v1404 : IVec S16 32) (k0_hw279 : k0_chk279 v1404), ∀ a x, ((![v1404] : Fin 1 → IVec S16 32) a x).toNat < S1024.size a := fun v1404 k0_hw279 => k0_hw279
def k0_off282 (k0_t35 : Fin k0_t35_loop.trips) : Fin 1 → Nat :=
  let c0_i32_756 : BitVec 32 := 0#32
  let c1_i32_758 : BitVec 32 := 1#32
  let arg7 : BitVec 32 := Scf.iv c0_i32_756 c1_i32_758 k0_t35
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk280 (v1415 : IVec S16 32) : Prop :=
  (∀ a x, ((![v1415] : Fin 1 → IVec S16 32) a x).toNat < S1024.size a)
theorem k0_idx280_inb : ∀ (v1415 : IVec S16 32) (k0_hw280 : k0_chk280 v1415), ∀ a x, ((![v1415] : Fin 1 → IVec S16 32) a x).toNat < S1024.size a := fun v1415 k0_hw280 => k0_hw280
@[reducible] def k0_t36_loop : Scf.Loop 32 :=
  let c0_i32_762 : BitVec 32 := 0#32
  let c256_i32_763 : BitVec 32 := 256#32
  let v961 : BitVec 32 := Scalar.addi c0_i32_762 c256_i32_763
  let c1_i32_764 : BitVec 32 := 1#32
  ⟨c0_i32_762, v961, c1_i32_764⟩
def k0_off283 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk281 (v1338 : IVec S16 32) : Prop :=
  (∀ a x, ((![v1338] : Fin 1 → IVec S16 32) a x).toNat < S1024.size a)
theorem k0_idx281_inb : ∀ (v1338 : IVec S16 32) (k0_hw281 : k0_chk281 v1338), ∀ a x, ((![v1338] : Fin 1 → IVec S16 32) a x).toNat < S1024.size a := fun v1338 k0_hw281 => k0_hw281
def k0_off284 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk282 (v1349 : IVec S16 32) : Prop :=
  (∀ a x, ((![v1349] : Fin 1 → IVec S16 32) a x).toNat < S1024.size a)
theorem k0_idx282_inb : ∀ (v1349 : IVec S16 32) (k0_hw282 : k0_chk282 v1349), ∀ a x, ((![v1349] : Fin 1 → IVec S16 32) a x).toNat < S1024.size a := fun v1349 k0_hw282 => k0_hw282
def k0_off285 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk283 (v1360 : IVec S16 32) : Prop :=
  (∀ a x, ((![v1360] : Fin 1 → IVec S16 32) a x).toNat < S1024.size a)
theorem k0_idx283_inb : ∀ (v1360 : IVec S16 32) (k0_hw283 : k0_chk283 v1360), ∀ a x, ((![v1360] : Fin 1 → IVec S16 32) a x).toNat < S1024.size a := fun v1360 k0_hw283 => k0_hw283
def k0_off286 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk284 (v1371 : IVec S16 32) : Prop :=
  (∀ a x, ((![v1371] : Fin 1 → IVec S16 32) a x).toNat < S1024.size a)
theorem k0_idx284_inb : ∀ (v1371 : IVec S16 32) (k0_hw284 : k0_chk284 v1371), ∀ a x, ((![v1371] : Fin 1 → IVec S16 32) a x).toNat < S1024.size a := fun v1371 k0_hw284 => k0_hw284
def k0_off287 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk285 (v1382 : IVec S16 32) : Prop :=
  (∀ a x, ((![v1382] : Fin 1 → IVec S16 32) a x).toNat < S1024.size a)
theorem k0_idx285_inb : ∀ (v1382 : IVec S16 32) (k0_hw285 : k0_chk285 v1382), ∀ a x, ((![v1382] : Fin 1 → IVec S16 32) a x).toNat < S1024.size a := fun v1382 k0_hw285 => k0_hw285
def k0_off288 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk286 (v1393 : IVec S16 32) : Prop :=
  (∀ a x, ((![v1393] : Fin 1 → IVec S16 32) a x).toNat < S1024.size a)
theorem k0_idx286_inb : ∀ (v1393 : IVec S16 32) (k0_hw286 : k0_chk286 v1393), ∀ a x, ((![v1393] : Fin 1 → IVec S16 32) a x).toNat < S1024.size a := fun v1393 k0_hw286 => k0_hw286
def k0_off289 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk287 (v1404 : IVec S16 32) : Prop :=
  (∀ a x, ((![v1404] : Fin 1 → IVec S16 32) a x).toNat < S1024.size a)
theorem k0_idx287_inb : ∀ (v1404 : IVec S16 32) (k0_hw287 : k0_chk287 v1404), ∀ a x, ((![v1404] : Fin 1 → IVec S16 32) a x).toNat < S1024.size a := fun v1404 k0_hw287 => k0_hw287
def k0_off290 (k0_t36 : Fin k0_t36_loop.trips) : Fin 1 → Nat :=
  let c0_i32_762 : BitVec 32 := 0#32
  let c1_i32_764 : BitVec 32 := 1#32
  let arg7 : BitVec 32 := Scf.iv c0_i32_762 c1_i32_764 k0_t36
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk288 (v1415 : IVec S16 32) : Prop :=
  (∀ a x, ((![v1415] : Fin 1 → IVec S16 32) a x).toNat < S1024.size a)
theorem k0_idx288_inb : ∀ (v1415 : IVec S16 32) (k0_hw288 : k0_chk288 v1415), ∀ a x, ((![v1415] : Fin 1 → IVec S16 32) a x).toNat < S1024.size a := fun v1415 k0_hw288 => k0_hw288
@[reducible] def k0_t37_loop : Scf.Loop 32 :=
  let c0_i32_768 : BitVec 32 := 0#32
  let c256_i32_769 : BitVec 32 := 256#32
  let v963 : BitVec 32 := Scalar.addi c0_i32_768 c256_i32_769
  let c1_i32_770 : BitVec 32 := 1#32
  ⟨c0_i32_768, v963, c1_i32_770⟩
def k0_off291 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk289 (v1338 : IVec S16 32) : Prop :=
  (∀ a x, ((![v1338] : Fin 1 → IVec S16 32) a x).toNat < S1024.size a)
theorem k0_idx289_inb : ∀ (v1338 : IVec S16 32) (k0_hw289 : k0_chk289 v1338), ∀ a x, ((![v1338] : Fin 1 → IVec S16 32) a x).toNat < S1024.size a := fun v1338 k0_hw289 => k0_hw289
def k0_off292 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk290 (v1349 : IVec S16 32) : Prop :=
  (∀ a x, ((![v1349] : Fin 1 → IVec S16 32) a x).toNat < S1024.size a)
theorem k0_idx290_inb : ∀ (v1349 : IVec S16 32) (k0_hw290 : k0_chk290 v1349), ∀ a x, ((![v1349] : Fin 1 → IVec S16 32) a x).toNat < S1024.size a := fun v1349 k0_hw290 => k0_hw290
def k0_off293 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk291 (v1360 : IVec S16 32) : Prop :=
  (∀ a x, ((![v1360] : Fin 1 → IVec S16 32) a x).toNat < S1024.size a)
theorem k0_idx291_inb : ∀ (v1360 : IVec S16 32) (k0_hw291 : k0_chk291 v1360), ∀ a x, ((![v1360] : Fin 1 → IVec S16 32) a x).toNat < S1024.size a := fun v1360 k0_hw291 => k0_hw291
def k0_off294 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk292 (v1371 : IVec S16 32) : Prop :=
  (∀ a x, ((![v1371] : Fin 1 → IVec S16 32) a x).toNat < S1024.size a)
theorem k0_idx292_inb : ∀ (v1371 : IVec S16 32) (k0_hw292 : k0_chk292 v1371), ∀ a x, ((![v1371] : Fin 1 → IVec S16 32) a x).toNat < S1024.size a := fun v1371 k0_hw292 => k0_hw292
def k0_off295 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk293 (v1382 : IVec S16 32) : Prop :=
  (∀ a x, ((![v1382] : Fin 1 → IVec S16 32) a x).toNat < S1024.size a)
theorem k0_idx293_inb : ∀ (v1382 : IVec S16 32) (k0_hw293 : k0_chk293 v1382), ∀ a x, ((![v1382] : Fin 1 → IVec S16 32) a x).toNat < S1024.size a := fun v1382 k0_hw293 => k0_hw293
def k0_off296 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk294 (v1393 : IVec S16 32) : Prop :=
  (∀ a x, ((![v1393] : Fin 1 → IVec S16 32) a x).toNat < S1024.size a)
theorem k0_idx294_inb : ∀ (v1393 : IVec S16 32) (k0_hw294 : k0_chk294 v1393), ∀ a x, ((![v1393] : Fin 1 → IVec S16 32) a x).toNat < S1024.size a := fun v1393 k0_hw294 => k0_hw294
def k0_off297 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk295 (v1404 : IVec S16 32) : Prop :=
  (∀ a x, ((![v1404] : Fin 1 → IVec S16 32) a x).toNat < S1024.size a)
theorem k0_idx295_inb : ∀ (v1404 : IVec S16 32) (k0_hw295 : k0_chk295 v1404), ∀ a x, ((![v1404] : Fin 1 → IVec S16 32) a x).toNat < S1024.size a := fun v1404 k0_hw295 => k0_hw295
def k0_off298 (k0_t37 : Fin k0_t37_loop.trips) : Fin 1 → Nat :=
  let c0_i32_768 : BitVec 32 := 0#32
  let c1_i32_770 : BitVec 32 := 1#32
  let arg7 : BitVec 32 := Scf.iv c0_i32_768 c1_i32_770 k0_t37
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk296 (v1415 : IVec S16 32) : Prop :=
  (∀ a x, ((![v1415] : Fin 1 → IVec S16 32) a x).toNat < S1024.size a)
theorem k0_idx296_inb : ∀ (v1415 : IVec S16 32) (k0_hw296 : k0_chk296 v1415), ∀ a x, ((![v1415] : Fin 1 → IVec S16 32) a x).toNat < S1024.size a := fun v1415 k0_hw296 => k0_hw296
@[reducible] def k0_t38_loop : Scf.Loop 32 :=
  let c0_i32_774 : BitVec 32 := 0#32
  let c256_i32_775 : BitVec 32 := 256#32
  let v965 : BitVec 32 := Scalar.addi c0_i32_774 c256_i32_775
  let c1_i32_776 : BitVec 32 := 1#32
  ⟨c0_i32_774, v965, c1_i32_776⟩
def k0_off299 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk297 (v1338 : IVec S16 32) : Prop :=
  (∀ a x, ((![v1338] : Fin 1 → IVec S16 32) a x).toNat < S1024.size a)
theorem k0_idx297_inb : ∀ (v1338 : IVec S16 32) (k0_hw297 : k0_chk297 v1338), ∀ a x, ((![v1338] : Fin 1 → IVec S16 32) a x).toNat < S1024.size a := fun v1338 k0_hw297 => k0_hw297
def k0_off300 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk298 (v1349 : IVec S16 32) : Prop :=
  (∀ a x, ((![v1349] : Fin 1 → IVec S16 32) a x).toNat < S1024.size a)
theorem k0_idx298_inb : ∀ (v1349 : IVec S16 32) (k0_hw298 : k0_chk298 v1349), ∀ a x, ((![v1349] : Fin 1 → IVec S16 32) a x).toNat < S1024.size a := fun v1349 k0_hw298 => k0_hw298
def k0_off301 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk299 (v1360 : IVec S16 32) : Prop :=
  (∀ a x, ((![v1360] : Fin 1 → IVec S16 32) a x).toNat < S1024.size a)
theorem k0_idx299_inb : ∀ (v1360 : IVec S16 32) (k0_hw299 : k0_chk299 v1360), ∀ a x, ((![v1360] : Fin 1 → IVec S16 32) a x).toNat < S1024.size a := fun v1360 k0_hw299 => k0_hw299
def k0_off302 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk300 (v1371 : IVec S16 32) : Prop :=
  (∀ a x, ((![v1371] : Fin 1 → IVec S16 32) a x).toNat < S1024.size a)
theorem k0_idx300_inb : ∀ (v1371 : IVec S16 32) (k0_hw300 : k0_chk300 v1371), ∀ a x, ((![v1371] : Fin 1 → IVec S16 32) a x).toNat < S1024.size a := fun v1371 k0_hw300 => k0_hw300
def k0_off303 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk301 (v1382 : IVec S16 32) : Prop :=
  (∀ a x, ((![v1382] : Fin 1 → IVec S16 32) a x).toNat < S1024.size a)
theorem k0_idx301_inb : ∀ (v1382 : IVec S16 32) (k0_hw301 : k0_chk301 v1382), ∀ a x, ((![v1382] : Fin 1 → IVec S16 32) a x).toNat < S1024.size a := fun v1382 k0_hw301 => k0_hw301
def k0_off304 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk302 (v1393 : IVec S16 32) : Prop :=
  (∀ a x, ((![v1393] : Fin 1 → IVec S16 32) a x).toNat < S1024.size a)
theorem k0_idx302_inb : ∀ (v1393 : IVec S16 32) (k0_hw302 : k0_chk302 v1393), ∀ a x, ((![v1393] : Fin 1 → IVec S16 32) a x).toNat < S1024.size a := fun v1393 k0_hw302 => k0_hw302
def k0_off305 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk303 (v1404 : IVec S16 32) : Prop :=
  (∀ a x, ((![v1404] : Fin 1 → IVec S16 32) a x).toNat < S1024.size a)
theorem k0_idx303_inb : ∀ (v1404 : IVec S16 32) (k0_hw303 : k0_chk303 v1404), ∀ a x, ((![v1404] : Fin 1 → IVec S16 32) a x).toNat < S1024.size a := fun v1404 k0_hw303 => k0_hw303
def k0_off306 (k0_t38 : Fin k0_t38_loop.trips) : Fin 1 → Nat :=
  let c0_i32_774 : BitVec 32 := 0#32
  let c1_i32_776 : BitVec 32 := 1#32
  let arg7 : BitVec 32 := Scf.iv c0_i32_774 c1_i32_776 k0_t38
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk304 (v1415 : IVec S16 32) : Prop :=
  (∀ a x, ((![v1415] : Fin 1 → IVec S16 32) a x).toNat < S1024.size a)
theorem k0_idx304_inb : ∀ (v1415 : IVec S16 32) (k0_hw304 : k0_chk304 v1415), ∀ a x, ((![v1415] : Fin 1 → IVec S16 32) a x).toNat < S1024.size a := fun v1415 k0_hw304 => k0_hw304
@[reducible] def k0_t39_loop : Scf.Loop 32 :=
  let c0_i32_780 : BitVec 32 := 0#32
  let c256_i32_781 : BitVec 32 := 256#32
  let v967 : BitVec 32 := Scalar.addi c0_i32_780 c256_i32_781
  let c1_i32_782 : BitVec 32 := 1#32
  ⟨c0_i32_780, v967, c1_i32_782⟩
def k0_off307 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk305 (v1338 : IVec S16 32) : Prop :=
  (∀ a x, ((![v1338] : Fin 1 → IVec S16 32) a x).toNat < S1024.size a)
theorem k0_idx305_inb : ∀ (v1338 : IVec S16 32) (k0_hw305 : k0_chk305 v1338), ∀ a x, ((![v1338] : Fin 1 → IVec S16 32) a x).toNat < S1024.size a := fun v1338 k0_hw305 => k0_hw305
def k0_off308 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk306 (v1349 : IVec S16 32) : Prop :=
  (∀ a x, ((![v1349] : Fin 1 → IVec S16 32) a x).toNat < S1024.size a)
theorem k0_idx306_inb : ∀ (v1349 : IVec S16 32) (k0_hw306 : k0_chk306 v1349), ∀ a x, ((![v1349] : Fin 1 → IVec S16 32) a x).toNat < S1024.size a := fun v1349 k0_hw306 => k0_hw306
def k0_off309 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk307 (v1360 : IVec S16 32) : Prop :=
  (∀ a x, ((![v1360] : Fin 1 → IVec S16 32) a x).toNat < S1024.size a)
theorem k0_idx307_inb : ∀ (v1360 : IVec S16 32) (k0_hw307 : k0_chk307 v1360), ∀ a x, ((![v1360] : Fin 1 → IVec S16 32) a x).toNat < S1024.size a := fun v1360 k0_hw307 => k0_hw307
def k0_off310 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk308 (v1371 : IVec S16 32) : Prop :=
  (∀ a x, ((![v1371] : Fin 1 → IVec S16 32) a x).toNat < S1024.size a)
theorem k0_idx308_inb : ∀ (v1371 : IVec S16 32) (k0_hw308 : k0_chk308 v1371), ∀ a x, ((![v1371] : Fin 1 → IVec S16 32) a x).toNat < S1024.size a := fun v1371 k0_hw308 => k0_hw308
def k0_off311 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk309 (v1382 : IVec S16 32) : Prop :=
  (∀ a x, ((![v1382] : Fin 1 → IVec S16 32) a x).toNat < S1024.size a)
theorem k0_idx309_inb : ∀ (v1382 : IVec S16 32) (k0_hw309 : k0_chk309 v1382), ∀ a x, ((![v1382] : Fin 1 → IVec S16 32) a x).toNat < S1024.size a := fun v1382 k0_hw309 => k0_hw309
def k0_off312 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk310 (v1393 : IVec S16 32) : Prop :=
  (∀ a x, ((![v1393] : Fin 1 → IVec S16 32) a x).toNat < S1024.size a)
theorem k0_idx310_inb : ∀ (v1393 : IVec S16 32) (k0_hw310 : k0_chk310 v1393), ∀ a x, ((![v1393] : Fin 1 → IVec S16 32) a x).toNat < S1024.size a := fun v1393 k0_hw310 => k0_hw310
def k0_off313 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk311 (v1404 : IVec S16 32) : Prop :=
  (∀ a x, ((![v1404] : Fin 1 → IVec S16 32) a x).toNat < S1024.size a)
theorem k0_idx311_inb : ∀ (v1404 : IVec S16 32) (k0_hw311 : k0_chk311 v1404), ∀ a x, ((![v1404] : Fin 1 → IVec S16 32) a x).toNat < S1024.size a := fun v1404 k0_hw311 => k0_hw311
def k0_off314 (k0_t39 : Fin k0_t39_loop.trips) : Fin 1 → Nat :=
  let c0_i32_780 : BitVec 32 := 0#32
  let c1_i32_782 : BitVec 32 := 1#32
  let arg7 : BitVec 32 := Scf.iv c0_i32_780 c1_i32_782 k0_t39
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk312 (v1415 : IVec S16 32) : Prop :=
  (∀ a x, ((![v1415] : Fin 1 → IVec S16 32) a x).toNat < S1024.size a)
theorem k0_idx312_inb : ∀ (v1415 : IVec S16 32) (k0_hw312 : k0_chk312 v1415), ∀ a x, ((![v1415] : Fin 1 → IVec S16 32) a x).toNat < S1024.size a := fun v1415 k0_hw312 => k0_hw312
@[reducible] def k0_t40_loop : Scf.Loop 32 :=
  let c0_i32_786 : BitVec 32 := 0#32
  let c256_i32_787 : BitVec 32 := 256#32
  let v969 : BitVec 32 := Scalar.addi c0_i32_786 c256_i32_787
  let c1_i32_788 : BitVec 32 := 1#32
  ⟨c0_i32_786, v969, c1_i32_788⟩
def k0_off315 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk313 (v1338 : IVec S16 32) : Prop :=
  (∀ a x, ((![v1338] : Fin 1 → IVec S16 32) a x).toNat < S1024.size a)
theorem k0_idx313_inb : ∀ (v1338 : IVec S16 32) (k0_hw313 : k0_chk313 v1338), ∀ a x, ((![v1338] : Fin 1 → IVec S16 32) a x).toNat < S1024.size a := fun v1338 k0_hw313 => k0_hw313
def k0_off316 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk314 (v1349 : IVec S16 32) : Prop :=
  (∀ a x, ((![v1349] : Fin 1 → IVec S16 32) a x).toNat < S1024.size a)
theorem k0_idx314_inb : ∀ (v1349 : IVec S16 32) (k0_hw314 : k0_chk314 v1349), ∀ a x, ((![v1349] : Fin 1 → IVec S16 32) a x).toNat < S1024.size a := fun v1349 k0_hw314 => k0_hw314
def k0_off317 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk315 (v1360 : IVec S16 32) : Prop :=
  (∀ a x, ((![v1360] : Fin 1 → IVec S16 32) a x).toNat < S1024.size a)
theorem k0_idx315_inb : ∀ (v1360 : IVec S16 32) (k0_hw315 : k0_chk315 v1360), ∀ a x, ((![v1360] : Fin 1 → IVec S16 32) a x).toNat < S1024.size a := fun v1360 k0_hw315 => k0_hw315
def k0_off318 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk316 (v1371 : IVec S16 32) : Prop :=
  (∀ a x, ((![v1371] : Fin 1 → IVec S16 32) a x).toNat < S1024.size a)
theorem k0_idx316_inb : ∀ (v1371 : IVec S16 32) (k0_hw316 : k0_chk316 v1371), ∀ a x, ((![v1371] : Fin 1 → IVec S16 32) a x).toNat < S1024.size a := fun v1371 k0_hw316 => k0_hw316
def k0_off319 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk317 (v1382 : IVec S16 32) : Prop :=
  (∀ a x, ((![v1382] : Fin 1 → IVec S16 32) a x).toNat < S1024.size a)
theorem k0_idx317_inb : ∀ (v1382 : IVec S16 32) (k0_hw317 : k0_chk317 v1382), ∀ a x, ((![v1382] : Fin 1 → IVec S16 32) a x).toNat < S1024.size a := fun v1382 k0_hw317 => k0_hw317
def k0_off320 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk318 (v1393 : IVec S16 32) : Prop :=
  (∀ a x, ((![v1393] : Fin 1 → IVec S16 32) a x).toNat < S1024.size a)
theorem k0_idx318_inb : ∀ (v1393 : IVec S16 32) (k0_hw318 : k0_chk318 v1393), ∀ a x, ((![v1393] : Fin 1 → IVec S16 32) a x).toNat < S1024.size a := fun v1393 k0_hw318 => k0_hw318
def k0_off321 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk319 (v1404 : IVec S16 32) : Prop :=
  (∀ a x, ((![v1404] : Fin 1 → IVec S16 32) a x).toNat < S1024.size a)
theorem k0_idx319_inb : ∀ (v1404 : IVec S16 32) (k0_hw319 : k0_chk319 v1404), ∀ a x, ((![v1404] : Fin 1 → IVec S16 32) a x).toNat < S1024.size a := fun v1404 k0_hw319 => k0_hw319
def k0_off322 (k0_t40 : Fin k0_t40_loop.trips) : Fin 1 → Nat :=
  let c0_i32_786 : BitVec 32 := 0#32
  let c1_i32_788 : BitVec 32 := 1#32
  let arg7 : BitVec 32 := Scf.iv c0_i32_786 c1_i32_788 k0_t40
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk320 (v1415 : IVec S16 32) : Prop :=
  (∀ a x, ((![v1415] : Fin 1 → IVec S16 32) a x).toNat < S1024.size a)
theorem k0_idx320_inb : ∀ (v1415 : IVec S16 32) (k0_hw320 : k0_chk320 v1415), ∀ a x, ((![v1415] : Fin 1 → IVec S16 32) a x).toNat < S1024.size a := fun v1415 k0_hw320 => k0_hw320
@[reducible] def k0_t41_loop : Scf.Loop 32 :=
  let c0_i32_931 : BitVec 32 := 0#32
  let c256_i32_932 : BitVec 32 := 256#32
  let v1175 : BitVec 32 := Scalar.addi c0_i32_931 c256_i32_932
  let c1_i32_933 : BitVec 32 := 1#32
  ⟨c0_i32_931, v1175, c1_i32_933⟩
def k0_off323 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk321 (v1338 : IVec S16 32) : Prop :=
  (∀ a x, ((![v1338] : Fin 1 → IVec S16 32) a x).toNat < S1024.size a)
theorem k0_idx321_inb : ∀ (v1338 : IVec S16 32) (k0_hw321 : k0_chk321 v1338), ∀ a x, ((![v1338] : Fin 1 → IVec S16 32) a x).toNat < S1024.size a := fun v1338 k0_hw321 => k0_hw321
def k0_off324 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk322 (v1349 : IVec S16 32) : Prop :=
  (∀ a x, ((![v1349] : Fin 1 → IVec S16 32) a x).toNat < S1024.size a)
theorem k0_idx322_inb : ∀ (v1349 : IVec S16 32) (k0_hw322 : k0_chk322 v1349), ∀ a x, ((![v1349] : Fin 1 → IVec S16 32) a x).toNat < S1024.size a := fun v1349 k0_hw322 => k0_hw322
def k0_off325 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk323 (v1360 : IVec S16 32) : Prop :=
  (∀ a x, ((![v1360] : Fin 1 → IVec S16 32) a x).toNat < S1024.size a)
theorem k0_idx323_inb : ∀ (v1360 : IVec S16 32) (k0_hw323 : k0_chk323 v1360), ∀ a x, ((![v1360] : Fin 1 → IVec S16 32) a x).toNat < S1024.size a := fun v1360 k0_hw323 => k0_hw323
def k0_off326 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk324 (v1371 : IVec S16 32) : Prop :=
  (∀ a x, ((![v1371] : Fin 1 → IVec S16 32) a x).toNat < S1024.size a)
theorem k0_idx324_inb : ∀ (v1371 : IVec S16 32) (k0_hw324 : k0_chk324 v1371), ∀ a x, ((![v1371] : Fin 1 → IVec S16 32) a x).toNat < S1024.size a := fun v1371 k0_hw324 => k0_hw324
def k0_off327 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk325 (v1382 : IVec S16 32) : Prop :=
  (∀ a x, ((![v1382] : Fin 1 → IVec S16 32) a x).toNat < S1024.size a)
theorem k0_idx325_inb : ∀ (v1382 : IVec S16 32) (k0_hw325 : k0_chk325 v1382), ∀ a x, ((![v1382] : Fin 1 → IVec S16 32) a x).toNat < S1024.size a := fun v1382 k0_hw325 => k0_hw325
def k0_off328 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk326 (v1393 : IVec S16 32) : Prop :=
  (∀ a x, ((![v1393] : Fin 1 → IVec S16 32) a x).toNat < S1024.size a)
theorem k0_idx326_inb : ∀ (v1393 : IVec S16 32) (k0_hw326 : k0_chk326 v1393), ∀ a x, ((![v1393] : Fin 1 → IVec S16 32) a x).toNat < S1024.size a := fun v1393 k0_hw326 => k0_hw326
def k0_off329 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk327 (v1404 : IVec S16 32) : Prop :=
  (∀ a x, ((![v1404] : Fin 1 → IVec S16 32) a x).toNat < S1024.size a)
theorem k0_idx327_inb : ∀ (v1404 : IVec S16 32) (k0_hw327 : k0_chk327 v1404), ∀ a x, ((![v1404] : Fin 1 → IVec S16 32) a x).toNat < S1024.size a := fun v1404 k0_hw327 => k0_hw327
def k0_off330 (k0_t41 : Fin k0_t41_loop.trips) : Fin 1 → Nat :=
  let c0_i32_931 : BitVec 32 := 0#32
  let c1_i32_933 : BitVec 32 := 1#32
  let arg7 : BitVec 32 := Scf.iv c0_i32_931 c1_i32_933 k0_t41
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk328 (v1415 : IVec S16 32) : Prop :=
  (∀ a x, ((![v1415] : Fin 1 → IVec S16 32) a x).toNat < S1024.size a)
theorem k0_idx328_inb : ∀ (v1415 : IVec S16 32) (k0_hw328 : k0_chk328 v1415), ∀ a x, ((![v1415] : Fin 1 → IVec S16 32) a x).toNat < S1024.size a := fun v1415 k0_hw328 => k0_hw328
@[reducible] def k0_t42_loop : Scf.Loop 32 :=
  let c0_i32_937 : BitVec 32 := 0#32
  let c256_i32_938 : BitVec 32 := 256#32
  let v1177 : BitVec 32 := Scalar.addi c0_i32_937 c256_i32_938
  let c1_i32_939 : BitVec 32 := 1#32
  ⟨c0_i32_937, v1177, c1_i32_939⟩
def k0_off331 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk329 (v1338 : IVec S16 32) : Prop :=
  (∀ a x, ((![v1338] : Fin 1 → IVec S16 32) a x).toNat < S1024.size a)
theorem k0_idx329_inb : ∀ (v1338 : IVec S16 32) (k0_hw329 : k0_chk329 v1338), ∀ a x, ((![v1338] : Fin 1 → IVec S16 32) a x).toNat < S1024.size a := fun v1338 k0_hw329 => k0_hw329
def k0_off332 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk330 (v1349 : IVec S16 32) : Prop :=
  (∀ a x, ((![v1349] : Fin 1 → IVec S16 32) a x).toNat < S1024.size a)
theorem k0_idx330_inb : ∀ (v1349 : IVec S16 32) (k0_hw330 : k0_chk330 v1349), ∀ a x, ((![v1349] : Fin 1 → IVec S16 32) a x).toNat < S1024.size a := fun v1349 k0_hw330 => k0_hw330
def k0_off333 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk331 (v1360 : IVec S16 32) : Prop :=
  (∀ a x, ((![v1360] : Fin 1 → IVec S16 32) a x).toNat < S1024.size a)
theorem k0_idx331_inb : ∀ (v1360 : IVec S16 32) (k0_hw331 : k0_chk331 v1360), ∀ a x, ((![v1360] : Fin 1 → IVec S16 32) a x).toNat < S1024.size a := fun v1360 k0_hw331 => k0_hw331
def k0_off334 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk332 (v1371 : IVec S16 32) : Prop :=
  (∀ a x, ((![v1371] : Fin 1 → IVec S16 32) a x).toNat < S1024.size a)
theorem k0_idx332_inb : ∀ (v1371 : IVec S16 32) (k0_hw332 : k0_chk332 v1371), ∀ a x, ((![v1371] : Fin 1 → IVec S16 32) a x).toNat < S1024.size a := fun v1371 k0_hw332 => k0_hw332
def k0_off335 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk333 (v1382 : IVec S16 32) : Prop :=
  (∀ a x, ((![v1382] : Fin 1 → IVec S16 32) a x).toNat < S1024.size a)
theorem k0_idx333_inb : ∀ (v1382 : IVec S16 32) (k0_hw333 : k0_chk333 v1382), ∀ a x, ((![v1382] : Fin 1 → IVec S16 32) a x).toNat < S1024.size a := fun v1382 k0_hw333 => k0_hw333
def k0_off336 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk334 (v1393 : IVec S16 32) : Prop :=
  (∀ a x, ((![v1393] : Fin 1 → IVec S16 32) a x).toNat < S1024.size a)
theorem k0_idx334_inb : ∀ (v1393 : IVec S16 32) (k0_hw334 : k0_chk334 v1393), ∀ a x, ((![v1393] : Fin 1 → IVec S16 32) a x).toNat < S1024.size a := fun v1393 k0_hw334 => k0_hw334
def k0_off337 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk335 (v1404 : IVec S16 32) : Prop :=
  (∀ a x, ((![v1404] : Fin 1 → IVec S16 32) a x).toNat < S1024.size a)
theorem k0_idx335_inb : ∀ (v1404 : IVec S16 32) (k0_hw335 : k0_chk335 v1404), ∀ a x, ((![v1404] : Fin 1 → IVec S16 32) a x).toNat < S1024.size a := fun v1404 k0_hw335 => k0_hw335
def k0_off338 (k0_t42 : Fin k0_t42_loop.trips) : Fin 1 → Nat :=
  let c0_i32_937 : BitVec 32 := 0#32
  let c1_i32_939 : BitVec 32 := 1#32
  let arg7 : BitVec 32 := Scf.iv c0_i32_937 c1_i32_939 k0_t42
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk336 (v1415 : IVec S16 32) : Prop :=
  (∀ a x, ((![v1415] : Fin 1 → IVec S16 32) a x).toNat < S1024.size a)
theorem k0_idx336_inb : ∀ (v1415 : IVec S16 32) (k0_hw336 : k0_chk336 v1415), ∀ a x, ((![v1415] : Fin 1 → IVec S16 32) a x).toNat < S1024.size a := fun v1415 k0_hw336 => k0_hw336
@[reducible] def k0_t43_loop : Scf.Loop 32 :=
  let c0_i32_943 : BitVec 32 := 0#32
  let c256_i32_944 : BitVec 32 := 256#32
  let v1179 : BitVec 32 := Scalar.addi c0_i32_943 c256_i32_944
  let c1_i32_945 : BitVec 32 := 1#32
  ⟨c0_i32_943, v1179, c1_i32_945⟩
def k0_off339 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk337 (v1338 : IVec S16 32) : Prop :=
  (∀ a x, ((![v1338] : Fin 1 → IVec S16 32) a x).toNat < S1024.size a)
theorem k0_idx337_inb : ∀ (v1338 : IVec S16 32) (k0_hw337 : k0_chk337 v1338), ∀ a x, ((![v1338] : Fin 1 → IVec S16 32) a x).toNat < S1024.size a := fun v1338 k0_hw337 => k0_hw337
def k0_off340 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk338 (v1349 : IVec S16 32) : Prop :=
  (∀ a x, ((![v1349] : Fin 1 → IVec S16 32) a x).toNat < S1024.size a)
theorem k0_idx338_inb : ∀ (v1349 : IVec S16 32) (k0_hw338 : k0_chk338 v1349), ∀ a x, ((![v1349] : Fin 1 → IVec S16 32) a x).toNat < S1024.size a := fun v1349 k0_hw338 => k0_hw338
def k0_off341 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk339 (v1360 : IVec S16 32) : Prop :=
  (∀ a x, ((![v1360] : Fin 1 → IVec S16 32) a x).toNat < S1024.size a)
theorem k0_idx339_inb : ∀ (v1360 : IVec S16 32) (k0_hw339 : k0_chk339 v1360), ∀ a x, ((![v1360] : Fin 1 → IVec S16 32) a x).toNat < S1024.size a := fun v1360 k0_hw339 => k0_hw339
def k0_off342 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk340 (v1371 : IVec S16 32) : Prop :=
  (∀ a x, ((![v1371] : Fin 1 → IVec S16 32) a x).toNat < S1024.size a)
theorem k0_idx340_inb : ∀ (v1371 : IVec S16 32) (k0_hw340 : k0_chk340 v1371), ∀ a x, ((![v1371] : Fin 1 → IVec S16 32) a x).toNat < S1024.size a := fun v1371 k0_hw340 => k0_hw340
def k0_off343 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk341 (v1382 : IVec S16 32) : Prop :=
  (∀ a x, ((![v1382] : Fin 1 → IVec S16 32) a x).toNat < S1024.size a)
theorem k0_idx341_inb : ∀ (v1382 : IVec S16 32) (k0_hw341 : k0_chk341 v1382), ∀ a x, ((![v1382] : Fin 1 → IVec S16 32) a x).toNat < S1024.size a := fun v1382 k0_hw341 => k0_hw341
def k0_off344 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk342 (v1393 : IVec S16 32) : Prop :=
  (∀ a x, ((![v1393] : Fin 1 → IVec S16 32) a x).toNat < S1024.size a)
theorem k0_idx342_inb : ∀ (v1393 : IVec S16 32) (k0_hw342 : k0_chk342 v1393), ∀ a x, ((![v1393] : Fin 1 → IVec S16 32) a x).toNat < S1024.size a := fun v1393 k0_hw342 => k0_hw342
def k0_off345 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk343 (v1404 : IVec S16 32) : Prop :=
  (∀ a x, ((![v1404] : Fin 1 → IVec S16 32) a x).toNat < S1024.size a)
theorem k0_idx343_inb : ∀ (v1404 : IVec S16 32) (k0_hw343 : k0_chk343 v1404), ∀ a x, ((![v1404] : Fin 1 → IVec S16 32) a x).toNat < S1024.size a := fun v1404 k0_hw343 => k0_hw343
def k0_off346 (k0_t43 : Fin k0_t43_loop.trips) : Fin 1 → Nat :=
  let c0_i32_943 : BitVec 32 := 0#32
  let c1_i32_945 : BitVec 32 := 1#32
  let arg7 : BitVec 32 := Scf.iv c0_i32_943 c1_i32_945 k0_t43
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk344 (v1415 : IVec S16 32) : Prop :=
  (∀ a x, ((![v1415] : Fin 1 → IVec S16 32) a x).toNat < S1024.size a)
theorem k0_idx344_inb : ∀ (v1415 : IVec S16 32) (k0_hw344 : k0_chk344 v1415), ∀ a x, ((![v1415] : Fin 1 → IVec S16 32) a x).toNat < S1024.size a := fun v1415 k0_hw344 => k0_hw344
@[reducible] def k0_t44_loop : Scf.Loop 32 :=
  let c0_i32_949 : BitVec 32 := 0#32
  let c256_i32_950 : BitVec 32 := 256#32
  let v1181 : BitVec 32 := Scalar.addi c0_i32_949 c256_i32_950
  let c1_i32_951 : BitVec 32 := 1#32
  ⟨c0_i32_949, v1181, c1_i32_951⟩
def k0_off347 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk345 (v1338 : IVec S16 32) : Prop :=
  (∀ a x, ((![v1338] : Fin 1 → IVec S16 32) a x).toNat < S1024.size a)
theorem k0_idx345_inb : ∀ (v1338 : IVec S16 32) (k0_hw345 : k0_chk345 v1338), ∀ a x, ((![v1338] : Fin 1 → IVec S16 32) a x).toNat < S1024.size a := fun v1338 k0_hw345 => k0_hw345
def k0_off348 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk346 (v1349 : IVec S16 32) : Prop :=
  (∀ a x, ((![v1349] : Fin 1 → IVec S16 32) a x).toNat < S1024.size a)
theorem k0_idx346_inb : ∀ (v1349 : IVec S16 32) (k0_hw346 : k0_chk346 v1349), ∀ a x, ((![v1349] : Fin 1 → IVec S16 32) a x).toNat < S1024.size a := fun v1349 k0_hw346 => k0_hw346
def k0_off349 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk347 (v1360 : IVec S16 32) : Prop :=
  (∀ a x, ((![v1360] : Fin 1 → IVec S16 32) a x).toNat < S1024.size a)
theorem k0_idx347_inb : ∀ (v1360 : IVec S16 32) (k0_hw347 : k0_chk347 v1360), ∀ a x, ((![v1360] : Fin 1 → IVec S16 32) a x).toNat < S1024.size a := fun v1360 k0_hw347 => k0_hw347
def k0_off350 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk348 (v1371 : IVec S16 32) : Prop :=
  (∀ a x, ((![v1371] : Fin 1 → IVec S16 32) a x).toNat < S1024.size a)
theorem k0_idx348_inb : ∀ (v1371 : IVec S16 32) (k0_hw348 : k0_chk348 v1371), ∀ a x, ((![v1371] : Fin 1 → IVec S16 32) a x).toNat < S1024.size a := fun v1371 k0_hw348 => k0_hw348
def k0_off351 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk349 (v1382 : IVec S16 32) : Prop :=
  (∀ a x, ((![v1382] : Fin 1 → IVec S16 32) a x).toNat < S1024.size a)
theorem k0_idx349_inb : ∀ (v1382 : IVec S16 32) (k0_hw349 : k0_chk349 v1382), ∀ a x, ((![v1382] : Fin 1 → IVec S16 32) a x).toNat < S1024.size a := fun v1382 k0_hw349 => k0_hw349
def k0_off352 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk350 (v1393 : IVec S16 32) : Prop :=
  (∀ a x, ((![v1393] : Fin 1 → IVec S16 32) a x).toNat < S1024.size a)
theorem k0_idx350_inb : ∀ (v1393 : IVec S16 32) (k0_hw350 : k0_chk350 v1393), ∀ a x, ((![v1393] : Fin 1 → IVec S16 32) a x).toNat < S1024.size a := fun v1393 k0_hw350 => k0_hw350
def k0_off353 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk351 (v1404 : IVec S16 32) : Prop :=
  (∀ a x, ((![v1404] : Fin 1 → IVec S16 32) a x).toNat < S1024.size a)
theorem k0_idx351_inb : ∀ (v1404 : IVec S16 32) (k0_hw351 : k0_chk351 v1404), ∀ a x, ((![v1404] : Fin 1 → IVec S16 32) a x).toNat < S1024.size a := fun v1404 k0_hw351 => k0_hw351
def k0_off354 (k0_t44 : Fin k0_t44_loop.trips) : Fin 1 → Nat :=
  let c0_i32_949 : BitVec 32 := 0#32
  let c1_i32_951 : BitVec 32 := 1#32
  let arg7 : BitVec 32 := Scf.iv c0_i32_949 c1_i32_951 k0_t44
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk352 (v1415 : IVec S16 32) : Prop :=
  (∀ a x, ((![v1415] : Fin 1 → IVec S16 32) a x).toNat < S1024.size a)
theorem k0_idx352_inb : ∀ (v1415 : IVec S16 32) (k0_hw352 : k0_chk352 v1415), ∀ a x, ((![v1415] : Fin 1 → IVec S16 32) a x).toNat < S1024.size a := fun v1415 k0_hw352 => k0_hw352
@[reducible] def k0_t45_loop : Scf.Loop 32 :=
  let c0_i32_955 : BitVec 32 := 0#32
  let c256_i32_956 : BitVec 32 := 256#32
  let v1183 : BitVec 32 := Scalar.addi c0_i32_955 c256_i32_956
  let c1_i32_957 : BitVec 32 := 1#32
  ⟨c0_i32_955, v1183, c1_i32_957⟩
def k0_off355 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk353 (v1338 : IVec S16 32) : Prop :=
  (∀ a x, ((![v1338] : Fin 1 → IVec S16 32) a x).toNat < S1024.size a)
theorem k0_idx353_inb : ∀ (v1338 : IVec S16 32) (k0_hw353 : k0_chk353 v1338), ∀ a x, ((![v1338] : Fin 1 → IVec S16 32) a x).toNat < S1024.size a := fun v1338 k0_hw353 => k0_hw353
def k0_off356 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk354 (v1349 : IVec S16 32) : Prop :=
  (∀ a x, ((![v1349] : Fin 1 → IVec S16 32) a x).toNat < S1024.size a)
theorem k0_idx354_inb : ∀ (v1349 : IVec S16 32) (k0_hw354 : k0_chk354 v1349), ∀ a x, ((![v1349] : Fin 1 → IVec S16 32) a x).toNat < S1024.size a := fun v1349 k0_hw354 => k0_hw354
def k0_off357 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk355 (v1360 : IVec S16 32) : Prop :=
  (∀ a x, ((![v1360] : Fin 1 → IVec S16 32) a x).toNat < S1024.size a)
theorem k0_idx355_inb : ∀ (v1360 : IVec S16 32) (k0_hw355 : k0_chk355 v1360), ∀ a x, ((![v1360] : Fin 1 → IVec S16 32) a x).toNat < S1024.size a := fun v1360 k0_hw355 => k0_hw355
def k0_off358 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk356 (v1371 : IVec S16 32) : Prop :=
  (∀ a x, ((![v1371] : Fin 1 → IVec S16 32) a x).toNat < S1024.size a)
theorem k0_idx356_inb : ∀ (v1371 : IVec S16 32) (k0_hw356 : k0_chk356 v1371), ∀ a x, ((![v1371] : Fin 1 → IVec S16 32) a x).toNat < S1024.size a := fun v1371 k0_hw356 => k0_hw356
def k0_off359 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk357 (v1382 : IVec S16 32) : Prop :=
  (∀ a x, ((![v1382] : Fin 1 → IVec S16 32) a x).toNat < S1024.size a)
theorem k0_idx357_inb : ∀ (v1382 : IVec S16 32) (k0_hw357 : k0_chk357 v1382), ∀ a x, ((![v1382] : Fin 1 → IVec S16 32) a x).toNat < S1024.size a := fun v1382 k0_hw357 => k0_hw357
def k0_off360 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk358 (v1393 : IVec S16 32) : Prop :=
  (∀ a x, ((![v1393] : Fin 1 → IVec S16 32) a x).toNat < S1024.size a)
theorem k0_idx358_inb : ∀ (v1393 : IVec S16 32) (k0_hw358 : k0_chk358 v1393), ∀ a x, ((![v1393] : Fin 1 → IVec S16 32) a x).toNat < S1024.size a := fun v1393 k0_hw358 => k0_hw358
def k0_off361 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk359 (v1404 : IVec S16 32) : Prop :=
  (∀ a x, ((![v1404] : Fin 1 → IVec S16 32) a x).toNat < S1024.size a)
theorem k0_idx359_inb : ∀ (v1404 : IVec S16 32) (k0_hw359 : k0_chk359 v1404), ∀ a x, ((![v1404] : Fin 1 → IVec S16 32) a x).toNat < S1024.size a := fun v1404 k0_hw359 => k0_hw359
def k0_off362 (k0_t45 : Fin k0_t45_loop.trips) : Fin 1 → Nat :=
  let c0_i32_955 : BitVec 32 := 0#32
  let c1_i32_957 : BitVec 32 := 1#32
  let arg7 : BitVec 32 := Scf.iv c0_i32_955 c1_i32_957 k0_t45
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk360 (v1415 : IVec S16 32) : Prop :=
  (∀ a x, ((![v1415] : Fin 1 → IVec S16 32) a x).toNat < S1024.size a)
theorem k0_idx360_inb : ∀ (v1415 : IVec S16 32) (k0_hw360 : k0_chk360 v1415), ∀ a x, ((![v1415] : Fin 1 → IVec S16 32) a x).toNat < S1024.size a := fun v1415 k0_hw360 => k0_hw360
@[reducible] def k0_t46_loop : Scf.Loop 32 :=
  let c0_i32_961 : BitVec 32 := 0#32
  let c256_i32_962 : BitVec 32 := 256#32
  let v1185 : BitVec 32 := Scalar.addi c0_i32_961 c256_i32_962
  let c1_i32_963 : BitVec 32 := 1#32
  ⟨c0_i32_961, v1185, c1_i32_963⟩
def k0_off363 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk361 (v1338 : IVec S16 32) : Prop :=
  (∀ a x, ((![v1338] : Fin 1 → IVec S16 32) a x).toNat < S1024.size a)
theorem k0_idx361_inb : ∀ (v1338 : IVec S16 32) (k0_hw361 : k0_chk361 v1338), ∀ a x, ((![v1338] : Fin 1 → IVec S16 32) a x).toNat < S1024.size a := fun v1338 k0_hw361 => k0_hw361
def k0_off364 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk362 (v1349 : IVec S16 32) : Prop :=
  (∀ a x, ((![v1349] : Fin 1 → IVec S16 32) a x).toNat < S1024.size a)
theorem k0_idx362_inb : ∀ (v1349 : IVec S16 32) (k0_hw362 : k0_chk362 v1349), ∀ a x, ((![v1349] : Fin 1 → IVec S16 32) a x).toNat < S1024.size a := fun v1349 k0_hw362 => k0_hw362
def k0_off365 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk363 (v1360 : IVec S16 32) : Prop :=
  (∀ a x, ((![v1360] : Fin 1 → IVec S16 32) a x).toNat < S1024.size a)
theorem k0_idx363_inb : ∀ (v1360 : IVec S16 32) (k0_hw363 : k0_chk363 v1360), ∀ a x, ((![v1360] : Fin 1 → IVec S16 32) a x).toNat < S1024.size a := fun v1360 k0_hw363 => k0_hw363
def k0_off366 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk364 (v1371 : IVec S16 32) : Prop :=
  (∀ a x, ((![v1371] : Fin 1 → IVec S16 32) a x).toNat < S1024.size a)
theorem k0_idx364_inb : ∀ (v1371 : IVec S16 32) (k0_hw364 : k0_chk364 v1371), ∀ a x, ((![v1371] : Fin 1 → IVec S16 32) a x).toNat < S1024.size a := fun v1371 k0_hw364 => k0_hw364
def k0_off367 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk365 (v1382 : IVec S16 32) : Prop :=
  (∀ a x, ((![v1382] : Fin 1 → IVec S16 32) a x).toNat < S1024.size a)
theorem k0_idx365_inb : ∀ (v1382 : IVec S16 32) (k0_hw365 : k0_chk365 v1382), ∀ a x, ((![v1382] : Fin 1 → IVec S16 32) a x).toNat < S1024.size a := fun v1382 k0_hw365 => k0_hw365
def k0_off368 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk366 (v1393 : IVec S16 32) : Prop :=
  (∀ a x, ((![v1393] : Fin 1 → IVec S16 32) a x).toNat < S1024.size a)
theorem k0_idx366_inb : ∀ (v1393 : IVec S16 32) (k0_hw366 : k0_chk366 v1393), ∀ a x, ((![v1393] : Fin 1 → IVec S16 32) a x).toNat < S1024.size a := fun v1393 k0_hw366 => k0_hw366
def k0_off369 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk367 (v1404 : IVec S16 32) : Prop :=
  (∀ a x, ((![v1404] : Fin 1 → IVec S16 32) a x).toNat < S1024.size a)
theorem k0_idx367_inb : ∀ (v1404 : IVec S16 32) (k0_hw367 : k0_chk367 v1404), ∀ a x, ((![v1404] : Fin 1 → IVec S16 32) a x).toNat < S1024.size a := fun v1404 k0_hw367 => k0_hw367
def k0_off370 (k0_t46 : Fin k0_t46_loop.trips) : Fin 1 → Nat :=
  let c0_i32_961 : BitVec 32 := 0#32
  let c1_i32_963 : BitVec 32 := 1#32
  let arg7 : BitVec 32 := Scf.iv c0_i32_961 c1_i32_963 k0_t46
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk368 (v1415 : IVec S16 32) : Prop :=
  (∀ a x, ((![v1415] : Fin 1 → IVec S16 32) a x).toNat < S1024.size a)
theorem k0_idx368_inb : ∀ (v1415 : IVec S16 32) (k0_hw368 : k0_chk368 v1415), ∀ a x, ((![v1415] : Fin 1 → IVec S16 32) a x).toNat < S1024.size a := fun v1415 k0_hw368 => k0_hw368
@[reducible] def k0_t47_loop : Scf.Loop 32 :=
  let c0_i32_967 : BitVec 32 := 0#32
  let c256_i32_968 : BitVec 32 := 256#32
  let v1187 : BitVec 32 := Scalar.addi c0_i32_967 c256_i32_968
  let c1_i32_969 : BitVec 32 := 1#32
  ⟨c0_i32_967, v1187, c1_i32_969⟩
def k0_off371 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk369 (v1338 : IVec S16 32) : Prop :=
  (∀ a x, ((![v1338] : Fin 1 → IVec S16 32) a x).toNat < S1024.size a)
theorem k0_idx369_inb : ∀ (v1338 : IVec S16 32) (k0_hw369 : k0_chk369 v1338), ∀ a x, ((![v1338] : Fin 1 → IVec S16 32) a x).toNat < S1024.size a := fun v1338 k0_hw369 => k0_hw369
def k0_off372 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk370 (v1349 : IVec S16 32) : Prop :=
  (∀ a x, ((![v1349] : Fin 1 → IVec S16 32) a x).toNat < S1024.size a)
theorem k0_idx370_inb : ∀ (v1349 : IVec S16 32) (k0_hw370 : k0_chk370 v1349), ∀ a x, ((![v1349] : Fin 1 → IVec S16 32) a x).toNat < S1024.size a := fun v1349 k0_hw370 => k0_hw370
def k0_off373 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk371 (v1360 : IVec S16 32) : Prop :=
  (∀ a x, ((![v1360] : Fin 1 → IVec S16 32) a x).toNat < S1024.size a)
theorem k0_idx371_inb : ∀ (v1360 : IVec S16 32) (k0_hw371 : k0_chk371 v1360), ∀ a x, ((![v1360] : Fin 1 → IVec S16 32) a x).toNat < S1024.size a := fun v1360 k0_hw371 => k0_hw371
def k0_off374 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk372 (v1371 : IVec S16 32) : Prop :=
  (∀ a x, ((![v1371] : Fin 1 → IVec S16 32) a x).toNat < S1024.size a)
theorem k0_idx372_inb : ∀ (v1371 : IVec S16 32) (k0_hw372 : k0_chk372 v1371), ∀ a x, ((![v1371] : Fin 1 → IVec S16 32) a x).toNat < S1024.size a := fun v1371 k0_hw372 => k0_hw372
def k0_off375 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk373 (v1382 : IVec S16 32) : Prop :=
  (∀ a x, ((![v1382] : Fin 1 → IVec S16 32) a x).toNat < S1024.size a)
theorem k0_idx373_inb : ∀ (v1382 : IVec S16 32) (k0_hw373 : k0_chk373 v1382), ∀ a x, ((![v1382] : Fin 1 → IVec S16 32) a x).toNat < S1024.size a := fun v1382 k0_hw373 => k0_hw373
def k0_off376 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk374 (v1393 : IVec S16 32) : Prop :=
  (∀ a x, ((![v1393] : Fin 1 → IVec S16 32) a x).toNat < S1024.size a)
theorem k0_idx374_inb : ∀ (v1393 : IVec S16 32) (k0_hw374 : k0_chk374 v1393), ∀ a x, ((![v1393] : Fin 1 → IVec S16 32) a x).toNat < S1024.size a := fun v1393 k0_hw374 => k0_hw374
def k0_off377 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk375 (v1404 : IVec S16 32) : Prop :=
  (∀ a x, ((![v1404] : Fin 1 → IVec S16 32) a x).toNat < S1024.size a)
theorem k0_idx375_inb : ∀ (v1404 : IVec S16 32) (k0_hw375 : k0_chk375 v1404), ∀ a x, ((![v1404] : Fin 1 → IVec S16 32) a x).toNat < S1024.size a := fun v1404 k0_hw375 => k0_hw375
def k0_off378 (k0_t47 : Fin k0_t47_loop.trips) : Fin 1 → Nat :=
  let c0_i32_967 : BitVec 32 := 0#32
  let c1_i32_969 : BitVec 32 := 1#32
  let arg7 : BitVec 32 := Scf.iv c0_i32_967 c1_i32_969 k0_t47
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk376 (v1415 : IVec S16 32) : Prop :=
  (∀ a x, ((![v1415] : Fin 1 → IVec S16 32) a x).toNat < S1024.size a)
theorem k0_idx376_inb : ∀ (v1415 : IVec S16 32) (k0_hw376 : k0_chk376 v1415), ∀ a x, ((![v1415] : Fin 1 → IVec S16 32) a x).toNat < S1024.size a := fun v1415 k0_hw376 => k0_hw376
@[reducible] def k0_t48_loop : Scf.Loop 32 :=
  let c0_i32_973 : BitVec 32 := 0#32
  let c256_i32_974 : BitVec 32 := 256#32
  let v1189 : BitVec 32 := Scalar.addi c0_i32_973 c256_i32_974
  let c1_i32_975 : BitVec 32 := 1#32
  ⟨c0_i32_973, v1189, c1_i32_975⟩
def k0_off379 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c0_i32_1050 : BitVec 32 := 0#32
  let v1328 : BitVec 32 := Scalar.addi v1327 c0_i32_1050
  let v1329 : Index := Scalar.indexCast v1328
  ![v1329.toNat]

def k0_chk377 (v1338 : IVec S16 32) : Prop :=
  (∀ a x, ((![v1338] : Fin 1 → IVec S16 32) a x).toNat < S1024.size a)
theorem k0_idx377_inb : ∀ (v1338 : IVec S16 32) (k0_hw377 : k0_chk377 v1338), ∀ a x, ((![v1338] : Fin 1 → IVec S16 32) a x).toNat < S1024.size a := fun v1338 k0_hw377 => k0_hw377
def k0_off380 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c16_i32 : BitVec 32 := 16#32
  let v1339 : BitVec 32 := Scalar.addi v1327 c16_i32
  let v1340 : Index := Scalar.indexCast v1339
  ![v1340.toNat]

def k0_chk378 (v1349 : IVec S16 32) : Prop :=
  (∀ a x, ((![v1349] : Fin 1 → IVec S16 32) a x).toNat < S1024.size a)
theorem k0_idx378_inb : ∀ (v1349 : IVec S16 32) (k0_hw378 : k0_chk378 v1349), ∀ a x, ((![v1349] : Fin 1 → IVec S16 32) a x).toNat < S1024.size a := fun v1349 k0_hw378 => k0_hw378
def k0_off381 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c32_i32 : BitVec 32 := 32#32
  let v1350 : BitVec 32 := Scalar.addi v1327 c32_i32
  let v1351 : Index := Scalar.indexCast v1350
  ![v1351.toNat]

def k0_chk379 (v1360 : IVec S16 32) : Prop :=
  (∀ a x, ((![v1360] : Fin 1 → IVec S16 32) a x).toNat < S1024.size a)
theorem k0_idx379_inb : ∀ (v1360 : IVec S16 32) (k0_hw379 : k0_chk379 v1360), ∀ a x, ((![v1360] : Fin 1 → IVec S16 32) a x).toNat < S1024.size a := fun v1360 k0_hw379 => k0_hw379
def k0_off382 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c48_i32 : BitVec 32 := 48#32
  let v1361 : BitVec 32 := Scalar.addi v1327 c48_i32
  let v1362 : Index := Scalar.indexCast v1361
  ![v1362.toNat]

def k0_chk380 (v1371 : IVec S16 32) : Prop :=
  (∀ a x, ((![v1371] : Fin 1 → IVec S16 32) a x).toNat < S1024.size a)
theorem k0_idx380_inb : ∀ (v1371 : IVec S16 32) (k0_hw380 : k0_chk380 v1371), ∀ a x, ((![v1371] : Fin 1 → IVec S16 32) a x).toNat < S1024.size a := fun v1371 k0_hw380 => k0_hw380
def k0_off383 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c64_i32_1062 : BitVec 32 := 64#32
  let v1372 : BitVec 32 := Scalar.addi v1327 c64_i32_1062
  let v1373 : Index := Scalar.indexCast v1372
  ![v1373.toNat]

def k0_chk381 (v1382 : IVec S16 32) : Prop :=
  (∀ a x, ((![v1382] : Fin 1 → IVec S16 32) a x).toNat < S1024.size a)
theorem k0_idx381_inb : ∀ (v1382 : IVec S16 32) (k0_hw381 : k0_chk381 v1382), ∀ a x, ((![v1382] : Fin 1 → IVec S16 32) a x).toNat < S1024.size a := fun v1382 k0_hw381 => k0_hw381
def k0_off384 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c80_i32 : BitVec 32 := 80#32
  let v1383 : BitVec 32 := Scalar.addi v1327 c80_i32
  let v1384 : Index := Scalar.indexCast v1383
  ![v1384.toNat]

def k0_chk382 (v1393 : IVec S16 32) : Prop :=
  (∀ a x, ((![v1393] : Fin 1 → IVec S16 32) a x).toNat < S1024.size a)
theorem k0_idx382_inb : ∀ (v1393 : IVec S16 32) (k0_hw382 : k0_chk382 v1393), ∀ a x, ((![v1393] : Fin 1 → IVec S16 32) a x).toNat < S1024.size a := fun v1393 k0_hw382 => k0_hw382
def k0_off385 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c96_i32 : BitVec 32 := 96#32
  let v1394 : BitVec 32 := Scalar.addi v1327 c96_i32
  let v1395 : Index := Scalar.indexCast v1394
  ![v1395.toNat]

def k0_chk383 (v1404 : IVec S16 32) : Prop :=
  (∀ a x, ((![v1404] : Fin 1 → IVec S16 32) a x).toNat < S1024.size a)
theorem k0_idx383_inb : ∀ (v1404 : IVec S16 32) (k0_hw383 : k0_chk383 v1404), ∀ a x, ((![v1404] : Fin 1 → IVec S16 32) a x).toNat < S1024.size a := fun v1404 k0_hw383 => k0_hw383
def k0_off386 (k0_t48 : Fin k0_t48_loop.trips) : Fin 1 → Nat :=
  let c0_i32_973 : BitVec 32 := 0#32
  let c1_i32_975 : BitVec 32 := 1#32
  let arg7 : BitVec 32 := Scf.iv c0_i32_973 c1_i32_975 k0_t48
  let c128_i32 : BitVec 32 := 128#32
  let v1327 : BitVec 32 := Scalar.muli arg7 c128_i32
  let c112_i32 : BitVec 32 := 112#32
  let v1405 : BitVec 32 := Scalar.addi v1327 c112_i32
  let v1406 : Index := Scalar.indexCast v1405
  ![v1406.toNat]

def k0_chk384 (v1415 : IVec S16 32) : Prop :=
  (∀ a x, ((![v1415] : Fin 1 → IVec S16 32) a x).toNat < S1024.size a)
theorem k0_idx384_inb : ∀ (v1415 : IVec S16 32) (k0_hw384 : k0_chk384 v1415), ∀ a x, ((![v1415] : Fin 1 → IVec S16 32) a x).toNat < S1024.size a := fun v1415 k0_hw384 => k0_hw384
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "scale" => some ((140737488355328 / 36893488147433176981 : ℝ) : EReal)
  | _ => none
-- ==== ReferenceIdeal.lean ====
abbrev S64x3x512x512 : Shape := ⟨4, ![64, 3, 512, 512]⟩
abbrev S_ : Shape := ⟨0, ![]⟩
abbrev S192x262144 : Shape := ⟨2, ![192, 262144]⟩
abbrev S192 : Shape := ⟨1, ![192]⟩
abbrev S192x1 : Shape := ⟨2, ![192, 1]⟩
abbrev S50331648 : Shape := ⟨1, ![50331648]⟩
abbrev S12288 : Shape := ⟨1, ![12288]⟩
abbrev S50331648x1 : Shape := ⟨2, ![50331648, 1]⟩
abbrev S192x64 : Shape := ⟨2, ![192, 64]⟩
abbrev S64x192 : Shape := ⟨2, ![64, 192]⟩

abbrev nBuf : Space → Nat
  | .hbm => 58
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S64x3x512x512, .f32⟩
  | .hbm, ⟨5, _⟩ => ⟨S64x3x512x512, .f32⟩
  | .hbm, ⟨6, _⟩ => ⟨S_, .f32⟩
  | .hbm, ⟨7, _⟩ => ⟨S64x3x512x512, .f32⟩
  | .hbm, ⟨8, _⟩ => ⟨S64x3x512x512, .f32⟩
  | .hbm, ⟨9, _⟩ => ⟨S_, .f32⟩
  | .hbm, ⟨10, _⟩ => ⟨S64x3x512x512, .f32⟩
  | .hbm, ⟨11, _⟩ => ⟨S64x3x512x512, .f32⟩
  | .hbm, ⟨12, _⟩ => ⟨S64x3x512x512, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x3x512x512, .i32⟩
  | .hbm, ⟨17, _⟩ => ⟨S64x3x512x512, .i32⟩
  | .hbm, ⟨18, _⟩ => ⟨S_, .i32⟩
  | .hbm, ⟨19, _⟩ => ⟨S64x3x512x512, .i32⟩
  | .hbm, ⟨20, _⟩ => ⟨S64x3x512x512, .i32⟩
  | .hbm, ⟨21, _⟩ => ⟨S192x262144, .i32⟩
  | .hbm, ⟨22, _⟩ => ⟨S192, .i32⟩
  | .hbm, ⟨23, _⟩ => ⟨S_, .i32⟩
  | .hbm, ⟨24, _⟩ => ⟨S192, .i32⟩
  | .hbm, ⟨25, _⟩ => ⟨S192, .i32⟩
  | .hbm, ⟨26, _⟩ => ⟨S192x1, .i32⟩
  | .hbm, ⟨27, _⟩ => ⟨S192x262144, .i32⟩
  | .hbm, ⟨28, _⟩ => ⟨S192x262144, .i32⟩
  | .hbm, ⟨29, _⟩ => ⟨S50331648, .i32⟩
  | .hbm, ⟨30, _⟩ => ⟨S_, .i32⟩
  | .hbm, ⟨31, _⟩ => ⟨S12288, .i32⟩
  | .hbm, ⟨32, _⟩ => ⟨S_, .i32⟩
  | .hbm, ⟨33, _⟩ => ⟨S_, .i32⟩
  | .hbm, ⟨34, _⟩ => ⟨S50331648, .i32⟩
  | .hbm, ⟨35, _⟩ => ⟨S50331648, .i32⟩
  | .hbm, ⟨36, _⟩ => ⟨S_, .i32⟩
  | .hbm, ⟨37, _⟩ => ⟨S50331648, .i32⟩
  | .hbm, ⟨38, _⟩ => ⟨S50331648, .i1⟩
  | .hbm, ⟨39, _⟩ => ⟨S_, .i32⟩
  | .hbm, ⟨40, _⟩ => ⟨S50331648, .i32⟩
  | .hbm, ⟨41, _⟩ => ⟨S50331648, .i32⟩
  | .hbm, ⟨42, _⟩ => ⟨S50331648, .i32⟩
  | .hbm, ⟨43, _⟩ => ⟨S50331648x1, .i32⟩
  | .hbm, ⟨44, _⟩ => ⟨S_, .i32⟩
  | .hbm, ⟨45, _⟩ => ⟨S50331648, .i32⟩
  | .hbm, ⟨46, _⟩ => ⟨S12288, .i32⟩
  | .hbm, ⟨47, _⟩ => ⟨S12288, .f32⟩
  | .hbm, ⟨48, _⟩ => ⟨S192x64, .f32⟩
  | .hbm, ⟨49, _⟩ => ⟨S_, .f32⟩
  | .hbm, ⟨50, _⟩ => ⟨S192, .f32⟩
  | .hbm, ⟨51, _⟩ => ⟨S192x1, .f32⟩
  | .hbm, ⟨52, _⟩ => ⟨S_, .f32⟩
  | .hbm, ⟨53, _⟩ => ⟨S192x1, .f32⟩
  | .hbm, ⟨54, _⟩ => ⟨S192x1, .f32⟩
  | .hbm, ⟨55, _⟩ => ⟨S192x64, .f32⟩
  | .hbm, ⟨56, _⟩ => ⟨S192x64, .f32⟩
  | .hbm, ⟨57, _⟩ => ⟨S64x192, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_3 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_c_5 : Ref sig .tc := ⟨.hbm, 32, rfl⟩
abbrev main_call2_v0 : Ref sig .tc := ⟨.hbm, 33, rfl⟩
abbrev main_call2_v1 : Ref sig .tc := ⟨.hbm, 34, rfl⟩
abbrev main_v14 : Ref sig .tc := ⟨.hbm, 35, rfl⟩
abbrev main_c_6 : Ref sig .tc := ⟨.hbm, 36, rfl⟩
abbrev main_v15 : Ref sig .tc := ⟨.hbm, 37, rfl⟩
abbrev main_v16 : Ref sig .tc := ⟨.hbm, 38, rfl⟩
abbrev main_c_7 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_v26 : Ref sig .tc := ⟨.hbm, 51, rfl⟩
abbrev main_cst_10 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩

abbrev nD : Nat := 1
abbrev τ : Topo := Topo.v7x

variable {F : FTy → Type} [FloatOps F]
-- ==== Proof.KernelIdeal.Prog.lean ====
/-
  The kernel's body written once per phase. The printed body is unrolled (six rows, eight chunks each, sixty-four zeroing
  stores, four times sixteen loads of the final sums); here each phase is one definition over the row, the chunk and the
  program that follows, and `body_eq` says that the printed body is their composition. Everything after this file
  reasons about the phases.
-/
module

public import proofs.«01_k».proof.KernelIdeal

@[expose] public section

noncomputable section

namespace Cert.Proof.KernelIdeal

open Cert.KernelIdeal Cert.KernelIdeal.Facts₀ Cert.KernelIdeal.Facts
open Idealize.ShloMosaic Idealize.SL.Sem

variable {F : FTy → Type} [FloatOps F] [Named F] [Cert.KernelIdeal.Facts]

/-! ## The kernel's arrays, as its body addresses them -/

/-- The flat input in HBM. -/
abbrev xW : Memref sig .scVector .hbm S50331648 .f32 := Memref.whole main_v0_scv
/-- The flat output in HBM. -/
abbrev oW : Memref sig .scVector .hbm S12288 .f32 := Memref.whole main_v1_scv
/-- A tile's input buffer. -/
abbrev bW : Memref sig .scVector .vmem S32768 .f32 := Memref.whole cc0_scratch0
/-- A tile's histogram, sixteen lanes of sixty-four bins. -/
abbrev hW : Memref sig .scVector .vmem S1024 .f32 := Memref.whole cc0_scratch1
/-- A tile's row of results. -/
abbrev qW : Memref sig .scVector .vmem S64 .f32 := Memref.whole cc0_scratch2

/-- The `n`-th of the body's scoped DMA semaphores. -/
theorem semOf_ok (n : Fin 54) : n.val + S_.numel ≤ 54 := by
  have h : S_.numel = 1 := by decide
  omega
def semOf (n : Fin 54) : DmaSem sig := (SemArray.consecutive n.val S_ (semOf_ok n) : DmaSems sig S_).sem

/-! ## The constants -/

/-- Lane `l`'s offset into the histogram: `64 l`. -/
def laneV : IVec S16 32 := muli (iota .scVector S16 32 [0] iota_S16_d0_w32_scVector) (broadcast S16 64#32)
def onesV : FVec F S16 .f32 := broadcast S16 (Scalar.ofBits .f32 0x3F800000#32)
def zeroC : F .f32 := Scalar.ofBits .f32 0x00000000#32
def zeroV : FVec F S16 .f32 := broadcast S16 zeroC
def scaleC : F .f32 := Named.named κ "scale" 0x36800000#32

/-- The histogram slots sixteen inputs count into: each lane's bin, `⌊64 x⌋` clamped to `[0, 63]`, in its own lane's part. -/
def slotV (x : Vec F S16 .f32) : IVec S16 32 :=
  addi (minsi (broadcast S16 63#32) (maxsi (broadcast S16 0#32) (fptosi 32 (mulf x (broadcast S16 (Scalar.ofBits .f32 0x42800000#32)))))) laneV

/-! ## The phases -/

section Phases

variable (i : grid0.Coords)

/-- Programs of the tile at grid coordinates `i`. -/
abbrev KP : Type 1 := Prog (TpuEff nD τ sig (Elt F) Λ₀ (.scVector ((i 0).castLE hcore0) ((i 1).castLE hsub0))) PUnit

theorem inbH (n : ℕ) (h : n < 64) : ∀ a, (![16 * n] : Fin 1 → ℕ) a + S16.size a ≤ S1024.size a := fun a => by
  match a with
  | 0 => show 16 * n + 16 ≤ 1024; omega
theorem inbQ (n : ℕ) (h : n < 4) : ∀ a, (![16 * n] : Fin 1 → ℕ) a + S16.size a ≤ S64.size a := fun a => by
  match a with
  | 0 => show 16 * n + 16 ≤ 64; omega

/-- The `n`-th block of sixteen histogram slots. -/
abbrev hR (n : ℕ) (h : n < 64) : Rect S1024 := Rect.unit (s := S1024) ![16 * n] S16.size (inbH n h)
/-- The `n`-th block of sixteen results. -/
abbrev qR (n : ℕ) (h : n < 4) : Rect S64 := Rect.unit (s := S64) ![16 * n] S16.size (inbQ n h)

/-- Zero the last `n` of the sixty-four blocks of the histogram, then `k`. -/
def zeroP : ℕ → KP (F := F) i → KP (F := F) i
  | 0, k => k
  | n + 1, k =>
    .op (.load hW (hR (64 - (n + 1)) (by omega)).toLoadRect (View.loadsAt_vmem h_S16)) fun _ =>
    .op (.store hW (hR (64 - (n + 1)) (by omega)) zeroV Finset.univ (View.stores_vmem_bits_univ h_S16 rfl) (.inl rfl)) fun _ =>
    zeroP n k

/-- Count sixteen inputs, loaded at offset `o`, then `k`. -/
def countP (o : Fin 1 → ℕ) (ho : ∀ a, o a + S16.size a ≤ S32768.size a) (k : KP (F := F) i) : KP (F := F) i :=
  .op (.load bW (Rect.unit (s := S32768) o S16.size ho).toLoadRect (View.loadsAt_vmem h_S16)) fun x =>
  .op (.assume (k0_chk1 (slotV x)) (k0_chk1.dec (slotV x))) fun hw =>
  SparseCore.vectorStoreIdx hW ![slotV x] onesV (fun _ => 1#1) true (k0_idx1_inb (slotV x) hw.down) (View.stores_vmem_bits_univ h_S1024 rfl) >>= fun _ =>
  k

/-- One trip of the counting loop: eight groups of sixteen inputs. -/
def tripP (t : Fin k0_t1_loop.trips) : KP (F := F) i :=
  countP i (k0_off2 t) (k0_off2_inb t) <| countP i (k0_off3 t) (k0_off3_inb t) <|
  countP i (k0_off4 t) (k0_off4_inb t) <| countP i (k0_off5 t) (k0_off5_inb t) <|
  countP i (k0_off6 t) (k0_off6_inb t) <| countP i (k0_off7 t) (k0_off7_inb t) <|
  countP i (k0_off8 t) (k0_off8_inb t) <| countP i (k0_off9 t) (k0_off9_inb t) <| .ret ⟨⟩

/-- The counting loop over the chunk in the input buffer. -/
abbrev loopP : KP (F := F) i := Scf.Loop.for k0_t1_loop k0_t1_ok PUnit.unit fun t _ => tripP i t

/-- Chunk `c` of the tile's row `r`, in HBM. -/
abbrev xSl (r : Fin 6) (c : Fin 8) : Memref sig .scVector .hbm S32768 .f32 :=
  xW.slice (Rect.unit (s := S50331648) (k0_off1 i (BitVec.ofNat 32 r.val) (BitVec.ofNat 32 (32768 * c.val))) S32768.size (k0_off1_inb i r c)) (fun _ => rfl)
/-- The tile's row `r` of results, in HBM. -/
abbrev oSl (r : Fin 6) : Memref sig .scVector .hbm S64 .f32 :=
  oW.slice (Rect.unit (s := S12288) (k0_off66 i (BitVec.ofNat 32 r.val)) S64.size (k0_off66_inb i r)) (fun _ => rfl)

/-- Copy chunk `c` of row `r` in (on semaphore `s`) and wait for it, then `k`. -/
def fetchP (s : DmaSem sig) (r : Fin 6) (c : Fin 8) (k : KP (F := F) i) : KP (F := F) i :=
  .op (.enqueueDma (xSl i r c) (.here bW) (.dma s) (View.wordExact_bits rfl) (Memref.isWhole_whole _).wordExact ⟨Or.inl rfl, trivial⟩) fun _ =>
  .op (.waitDma2 s (xSl i r c) bW (View.wordExact_bits rfl) (Memref.isWhole_whole _).wordExact) fun _ =>
  k

/-- Copy the row of results out to row `r` (on semaphore `s`) and wait for it, then `k`. -/
def flushP (s : DmaSem sig) (r : Fin 6) (k : KP (F := F) i) : KP (F := F) i :=
  .op (.enqueueDma qW (.here (oSl i r)) (.dma s) (Memref.isWhole_whole _).wordExact (View.wordExact_bits rfl) ⟨Or.inl rfl, trivial⟩) fun _ =>
  .op (.waitDma2 s qW (oSl i r) (Memref.isWhole_whole _).wordExact (View.wordExact_bits rfl)) fun _ =>
  k

/-- One chunk: fetched, counted. -/
def chunkP (s : DmaSem sig) (r : Fin 6) (c : Fin 8) (k : KP (F := F) i) : KP (F := F) i :=
  fetchP i s r c (loopP i >>= fun _ => k)

/-- Add the last `n` of the lanes' bins in block `q` to `acc`, then `k` of the sum. -/
def accP (q : Fin 4) : ℕ → FVec F S16 .f32 → (FVec F S16 .f32 → KP (F := F) i) → KP (F := F) i
  | 0, acc, k => k acc
  | n + 1, acc, k =>
    .op (.load hW (hR (4 * (16 - (n + 1)) + q.val) (by omega)).toLoadRect (View.loadsAt_vmem h_S16)) fun (v : Vec F S16 .f32) =>
    accP q n (addf acc v) k

/-- Sum the sixteen lanes' bins of block `q`, scale, store as block `q` of the results, then `k`. -/
def sumP (q : Fin 4) (k : KP (F := F) i) : KP (F := F) i :=
  .op (.load hW (hR q.val (by omega)).toLoadRect (View.loadsAt_vmem h_S16)) fun (v : Vec F S16 .f32) =>
  accP i q 15 v fun acc =>
  .op (.load qW (qR q.val q.isLt).toLoadRect (View.loadsAt_vmem h_S16)) fun _ =>
  .op (.store qW (qR q.val q.isLt) (mulf acc (broadcast S16 scaleC)) Finset.univ (View.stores_vmem_bits_univ h_S16 rfl) (.inl rfl)) fun _ =>
  k

theorem sem_lt (r : Fin 6) (c : Fin 9) : 9 * r.val + c.val < 54 := by omega
/-- Row `r`'s semaphores: eight for its chunks, one for its results. -/
def rowSem (r : Fin 6) (c : Fin 9) : DmaSem sig := semOf ⟨9 * r.val + c.val, sem_lt r c⟩

/-- The eight chunks of row `r` from chunk `8 - n` on, then `k`. -/
def chunksP (r : Fin 6) : ℕ → KP (F := F) i → KP (F := F) i
  | 0, k => k
  | n + 1, k => chunkP i (rowSem r ⟨8 - (n + 1), by omega⟩) r ⟨8 - (n + 1), by omega⟩ (chunksP r n k)

/-- Row `r`: zeroed, its eight chunks counted, its lanes summed, the results copied out; then `k`. -/
def rowP (r : Fin 6) (k : KP (F := F) i) : KP (F := F) i :=
  zeroP i 64 <| chunksP i r 8 <| sumP i 0 <| sumP i 1 <| sumP i 2 <| sumP i 3 <| flushP i (rowSem r 8) r k

/-- The body: six rows. -/
def bodyP : KP (F := F) i := rowP i 0 <| rowP i 1 <| rowP i 2 <| rowP i 3 <| rowP i 4 <| rowP i 5 <| .ret ⟨⟩

end Phases

end Cert.Proof.KernelIdeal

end
-- ==== Proof.KernelIdeal.Model.lean ====
/-
  What the kernel computes, as plain functions of the flat input: the histogram after a number of groups of sixteen
  inputs, and the results of a row.
-/
module

public import proofs.«01_k».proof.Proof.KernelIdeal.Prog

@[expose] public section

noncomputable section

namespace Cert.Proof.KernelIdeal

open Cert.KernelIdeal Cert.KernelIdeal.Facts₀ Cert.KernelIdeal.Facts
open Idealize.ShloMosaic Idealize.SL.Sem

variable {F : FTy → Type} [FloatOps F] [Named F] [Cert.KernelIdeal.Facts]

/-- The bin of one input: `⌊64 x⌋` clamped to `[0, 63]`, as a word. -/
def binW (x : F .f32) : BitVec 32 :=
  IntOp.minsi 63#32 (IntOp.maxsi 0#32 (FloatOps.fptosi 32 (FloatOps.mulf x (Scalar.ofBits .f32 0x42800000#32))))

omit [Cert.KernelIdeal.Facts] in
/-- A word clamped to `[0, 63]` is below 64. -/
theorem clamp_lt (w : BitVec 32) : (IntOp.minsi 63#32 (IntOp.maxsi 0#32 w)).toNat < 64 := by
  unfold IntOp.minsi IntOp.maxsi
  have e : (63#32 : BitVec 32).toInt = 63 := by decide
  have e0 : (0#32 : BitVec 32).toInt = 0 := by decide
  by_cases h' : w.slt 0#32 = true
  · rw [if_pos h']; decide
  · rw [if_neg h']
    by_cases h : (63#32 : BitVec 32).slt w = true
    · rw [if_pos h]; decide
    · rw [if_neg h]
      simp only [BitVec.slt, decide_eq_true_eq, e, e0] at h h'
      rw [BitVec.toInt_eq_toNat_cond] at h h'
      have := w.isLt
      split at h <;> omega

/-- The bin as a number. -/
def binN (x : F .f32) : ℕ := (binW x).toNat
theorem binN_lt (x : F .f32) : binN x < 64 := clamp_lt _

omit [FloatOps F] [Named F] in
theorem laneV_toNat (j : S16.Idx) : (laneV j).toNat = 64 * (j 0).val := by
  have hj : (j 0).val < 16 := (j 0).isLt
  have h : laneV j = BitVec.ofNat 32 (0 * S16.size 0 + (j 0).val) * 64#32 := rfl
  rw [h, BitVec.toNat_mul, BitVec.toNat_ofNat, BitVec.toNat_ofNat]
  omega

/-- A lane's slot: its bin, in its own lane's sixty-four. -/
theorem slotV_toNat (x : Vec F S16 .f32) (j : S16.Idx) : (slotV x j).toNat = 64 * (j 0).val + binN (x j) := by
  have hj : (j 0).val < 16 := (j 0).isLt
  have h : slotV x j = binW (x j) + laneV j := rfl
  have hb : (binW (x j)).toNat < 64 := binN_lt (x j)
  rw [h, BitVec.toNat_add, laneV_toNat]
  show (binN (x j) + 64 * (j 0).val) % 2 ^ 32 = _
  have : binN (x j) < 64 := hb
  omega

/-- Every slot is inside the histogram, so the check before the scatter passes. -/
theorem chk (x : Vec F S16 .f32) : k0_chk1 (slotV x) := by
  intro a j
  have hj : (j 0).val < 16 := (j 0).isLt
  have hb := binN_lt (x j)
  match a with
  | 0 =>
    show (slotV x j).toNat < 1024
    rw [slotV_toNat]; omega

/-- Sixteen consecutive inputs. -/
def vecAt (X : ℕ → F .f32) (p : ℕ) : Vec F S16 .f32 := fun j => X (p + (j 0).val)

/-- The histogram after counting sixteen inputs into `g`. -/
def scatB (x : Vec F S16 .f32) (g : Vec F S1024 .f32) : Vec F S1024 .f32 :=
  storeIdx g ![slotV x] onesV (fun _ => 1#1) true (k0_idx1_inb (slotV x) (chk x))

/-- The histogram after the first `k` groups of sixteen inputs from position `base`. -/
def histN (X : ℕ → F .f32) (base : ℕ) : ℕ → Vec F S1024 .f32
  | 0 => fun _ => zeroC
  | k + 1 => scatB (vecAt X (base + 16 * k)) (histN X base k)

/-- The histogram's slot `n`. -/
def hAt (g : Vec F S1024 .f32) (n : ℕ) : F .f32 := g fun a => match a with | 0 => ⟨n % 1024, Nat.mod_lt _ (by decide)⟩

/-- The sum of bin `b` over the lanes `0 … n`. -/
def accV (g : Vec F S1024 .f32) (b : ℕ) : ℕ → F .f32
  | 0 => hAt g b
  | n + 1 => FloatOps.addf (accV g b n) (hAt g (64 * (n + 1) + b))

/-- The result for bin `b` of a histogram. -/
def outV (g : Vec F S1024 .f32) (b : ℕ) : F .f32 := FloatOps.mulf (accV g b 15) scaleC

/-- The result for bin `b` of row `row` of the input. -/
def outVal (X : ℕ → F .f32) (row b : ℕ) : F .f32 := outV (histN X (262144 * row) 16384) b

end Cert.Proof.KernelIdeal

end
-- ==== Proof.KernelIdeal.Tile.lean ====
/-
  The tile's run, phase by phase: for each phase of the body (Prog.lean) what it leaves in the tile's buffers, as a
  function of what they held (Model.lean).
-/
module

public import proofs.«01_k».proof.Proof.KernelIdeal.Model
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.KernelIdeal

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds beside the transfers' counters -/

abbrev UH : Type := URounds (GSem nD τ sig) ℕ
abbrev UU : Type := UH × Counters
local notation "𝕄" => MT nD τ sig (HIx 1) (Elt F) ℕ UU ℕ
abbrev EH : Emb UH (MT nD τ sig (HIx 1) (Elt F) ℕ UU ℕ) := embL
abbrev 𝒱₀ : Variants := Variants.none

variable [FloatOps F] [Named F] [Cert.KernelIdeal.Facts]

section Tile

variable (d : Dev nD) (i : grid0.Coords)

abbrev cV (i : grid0.Coords) : Fin τ.nSC := (i 0).castLE hcore0
abbrev jV (i : grid0.Coords) : Fin τ.nSub := (i 1).castLE hsub0
/-- The tile's thread. -/
abbrev thr : Thread nD τ := V d (cV i) (jV i)

/-- The weakest precondition of a program of the tile. -/
abbrev WP (P : KP (F := F) i) (Q : PUnit → sProp 𝕄) : sProp 𝕄 :=
  wp frame (wpE (defs₀ (F := F)) 𝒱₀ (thr d i) none) Set.univ P Q

/-- The tile's input buffer, histogram and results, at given contents. -/
abbrev bPts (f : Vec F S32768 .f32) : sProp 𝕄 := (thr d i).loc cc0_scratch0 ↦{fullShare} f
abbrev hPts (f : Vec F S1024 .f32) : sProp 𝕄 := (thr d i).loc cc0_scratch1 ↦{fullShare} f
abbrev qPts (f : Vec F S64 .f32) : sProp 𝕄 := (thr d i).loc cc0_scratch2 ↦{fullShare} f

variable {d} {i}

/-! ## The buffers' loads and stores -/

omit [FloatOps F] [Named F] in
theorem idx1024 (j : S1024.Idx) : (j 0).val < 1024 := (j 0).isLt
omit [FloatOps F] [Named F] in
theorem idx64 (j : S64.Idx) : (j 0).val < 64 := (j 0).isLt
omit [FloatOps F] [Named F] in
theorem idx16 (j : S16.Idx) : (j 0).val < 16 := (j 0).isLt

/-- Sixteen consecutive slots of the histogram. -/
def blkH (f : Vec F S1024 .f32) (n : ℕ) : Vec F S16 .f32 := fun j => hAt f (16 * n + (j 0).val)

omit [FloatOps F] [Named F] in
/-- A load of the histogram's block `n` reads the slots from `16 n` on. -/
theorem read_hR (n : ℕ) (h : n < 64) (f : Vec F S1024 .f32) :
    (hW.access (hR n h)).read (Elt F) f = blkH f n := by
  funext j
  have hj := idx16 j
  rw [View.read_apply]
  show f ((hR n h).emb j) = _
  unfold blkH hAt
  refine congrArg f (funext fun a => Fin.ext ?_)
  match a with
  | 0 =>
    show 16 * n + 1 * (j 0).val = (16 * n + (j 0).val) % 1024
    omega

omit [FloatOps F] [Named F] in
/-- A position of a block of the histogram. -/
theorem emb_hR (n : ℕ) (h : n < 64) (j : S1024.Idx) (h0 : 16 * n ≤ (j 0).val) (h1 : (j 0).val < 16 * n + 16) :
    (hW.access (hR n h)).emb (fun a => match a with | 0 => ⟨(j 0).val - 16 * n, show _ < 16 by omega⟩ : S16.Idx) = j := by
  show (hR n h).emb _ = j
  funext a
  refine Fin.ext ?_
  match a with
  | 0 =>
    show 16 * n + 1 * ((j 0).val - 16 * n) = (j 0).val
    omega

omit [FloatOps F] [Named F] in
/-- A store to block `n` of the histogram leaves the slots below it and writes its own. -/
theorem write_hR_lt (n : ℕ) (h : n < 64) (f : Vec F S1024 .f32) (w : Vec F S16 .f32) (j : S1024.Idx) (hj : (j 0).val < 16 * n) :
    (hW.access (hR n h)).write (Elt F) f w Finset.univ j = f j := by
  refine View.write_of_not_mem _ _ _ fun hm => ?_
  rw [View.setOn, Finset.mem_map] at hm
  obtain ⟨x, -, e⟩ := hm
  have e' : (hR n h).emb x = j := e
  have := congrArg (fun y : S1024.Idx => (y 0).val) e'
  change 16 * n + 1 * (x 0).val = (j 0).val at this
  omega

theorem wp_loadH {Q : PUnit → sProp 𝕄} (n : ℕ) (h : n < 64) (f : Vec F S1024 .f32) (k : Vec F S16 .f32 → KP (F := F) i) :
    hPts d i f ⊢ iprop((hPts d i f -∗ WP d i (k (blkH f n)) Q)
      -∗ WP d i (.op (.load hW (hR n h).toLoadRect (View.loadsAt_vmem h_S16)) k) Q) := by
  rw [← read_hR n h f]
  exact wp_load_rect (defs := defs₀ (F := F)) 𝒱₀ (thr d i) none Set.univ (Q := Q) (m := hW) (r := hR n h) (S := Finset.univ) (q := fullShare) (f := f)
    (hl := View.loadsAt_vmem h_S16) (k := k) (Finset.subset_univ _)

theorem wp_storeH {Q : PUnit → sProp 𝕄} (n : ℕ) (h : n < 64) (f : Vec F S1024 .f32) (w : Vec F S16 .f32) (k : PUnit → KP (F := F) i) :
    hPts d i f ⊢ iprop((hPts d i ((hW.access (hR n h)).write (Elt F) f w Finset.univ) -∗ WP d i (k ⟨⟩) Q)
      -∗ WP d i (.op (.store hW (hR n h) w Finset.univ (View.stores_vmem_bits_univ h_S16 rfl) (.inl rfl)) k) Q) :=
  wp_store (defs := defs₀ (F := F)) 𝒱₀ (thr d i) none Set.univ (Q := Q) (m := hW) (r := hR n h) (S := Finset.univ) (f := f)
    (hx := View.stores_vmem_bits_univ h_S16 rfl) (hm := .inl rfl) (k := k) (Finset.subset_univ _)

/-- A finished program's postcondition. -/
theorem wp_done {Q : PUnit → sProp 𝕄} : Q ⟨⟩ ⊢ WP d i (.ret ⟨⟩) Q := by
  unfold WP
  rw [wp_ret]
  iintro H; imodintro; iexact H

/-! ## The zeroing -/

/-- The `n` last blocks zeroed, the earlier ones being zero already: the histogram is zero. -/
theorem wp_zeroP {Q : PUnit → sProp 𝕄} (k : KP (F := F) i) : ∀ n ≤ 64, ∀ f : Vec F S1024 .f32, (∀ j, (j 0).val < 16 * (64 - n) → f j = zeroC) →
    hPts d i f ⊢ iprop((hPts d i (fun _ => zeroC) -∗ WP d i k Q) -∗ WP d i (zeroP i n k) Q)
  | 0, _, f, hf => by
    have e : f = fun _ => zeroC := funext fun j => hf j (by have := idx1024 j; omega)
    subst e
    iintro H Hk
    iapply Hk; iexact H
  | n + 1, hn, f, hf => by
    unfold zeroP
    iintro H Hk
    iapply (wp_loadH (64 - (n + 1)) _ f) $$ H
    iintro H
    iapply (wp_storeH (64 - (n + 1)) _ f) $$ H
    iintro H
    iapply (wp_zeroP k n (by omega) _ ?_) $$ H
    · intro j hj
      by_cases h : (j 0).val < 16 * (64 - (n + 1))
      · rw [write_hR_lt _ _ _ _ _ h]; exact hf j h
      · have h0 : 16 * (64 - (n + 1)) ≤ (j 0).val := by omega
        rw [← emb_hR (64 - (n + 1)) (by omega) j h0 (by omega)]
        exact View.write_emb_of_mem _ _ (Finset.mem_univ _)
    · iexact Hk

/-! ## The counting -/

/-- The input buffer holds the inputs from position `B` on. -/
def Holds (X : ℕ → F .f32) (B : ℕ) (f : Vec F S32768 .f32) : Prop := ∀ j, f j = X (B + (j 0).val)

omit [FloatOps F] [Named F] in
theorem read_bR {X : ℕ → F .f32} {B : ℕ} {f : Vec F S32768 .f32} (hf : Holds X B f) {o : Fin 1 → ℕ} {p : ℕ} (e : o = ![p])
    (ho : ∀ a, o a + S16.size a ≤ S32768.size a) :
    (bW.access (Rect.unit (s := S32768) o S16.size ho)).read (Elt F) f = vecAt X (B + p) := by
  subst e
  funext j
  rw [View.read_apply]
  show f ((Rect.unit (s := S32768) ![p] S16.size ho).emb j) = _
  rw [hf]
  unfold vecAt
  refine congrArg X ?_
  show B + (p + 1 * (j 0).val) = B + p + (j 0).val
  omega

theorem wp_loadB {Q : PUnit → sProp 𝕄} {X : ℕ → F .f32} {B : ℕ} {f : Vec F S32768 .f32} (hf : Holds X B f) {o : Fin 1 → ℕ} {p : ℕ} (e : o = ![p])
    (ho : ∀ a, o a + S16.size a ≤ S32768.size a) (k : Vec F S16 .f32 → KP (F := F) i) :
    bPts d i f ⊢ iprop((bPts d i f -∗ WP d i (k (vecAt X (B + p))) Q)
      -∗ WP d i (.op (.load bW (Rect.unit (s := S32768) o S16.size ho).toLoadRect (View.loadsAt_vmem h_S16)) k) Q) := by
  rw [← read_bR hf e ho]
  exact wp_load_rect (defs := defs₀ (F := F)) 𝒱₀ (thr d i) none Set.univ (Q := Q) (m := bW) (r := Rect.unit (s := S32768) o S16.size ho) (S := Finset.univ)
    (q := fullShare) (f := f) (hl := View.loadsAt_vmem h_S16) (k := k) (Finset.subset_univ _)

theorem wp_scatH {Q : PUnit → sProp 𝕄} (x : Vec F S16 .f32) (hw : k0_chk1 (slotV x)) (g : Vec F S1024 .f32) (k : KP (F := F) i) :
    hPts d i g ⊢ iprop((hPts d i (scatB x g) -∗ WP d i k Q)
      -∗ WP d i (SparseCore.vectorStoreIdx hW ![slotV x] onesV (fun _ => 1#1) true (k0_idx1_inb (slotV x) hw)
          (View.stores_vmem_bits_univ h_S1024 rfl) >>= fun _ => k) Q) := by
  have h := SparseCore.wp_vectorStoreIdx (defs := defs₀ (F := F)) 𝒱₀ (thr d i) none Set.univ (Q := Q) (base := hW) (idxs := ![slotV x]) (v := onesV)
    (mask := fun _ => 1#1) (add := true) (h := k0_idx1_inb (slotV x) hw) (hs := View.stores_vmem_bits_univ h_S1024 rfl) (k := fun _ => k) (f := g)
  have hwr : ∀ w, (hW.access (.whole S1024)).write (Elt F) g w Finset.univ = w := fun w => Memref.write_access_whole_univ (Elt F) cc0_scratch1 g w
  have hrd : (hW.access (.whole S1024)).read (Elt F) g = g := Memref.read_access_whole (Elt F) cc0_scratch1 g
  have hst : (hW.access (.whole S1024)).set = Finset.univ := Memref.set_access_whole cc0_scratch1
  rw [hst, hwr, hrd] at h
  unfold scatB
  exact h

/-- The check before the scatter passes. -/
theorem wp_chk {Q : PUnit → sProp 𝕄} {x : Vec F S16 .f32} (h : k0_chk1 (slotV x)) {k : PLift (k0_chk1 (slotV x)) → KP (F := F) i} :
    WP d i (k ⟨h⟩) Q ⊢ WP d i (.op (.assume (k0_chk1 (slotV x)) (k0_chk1.dec (slotV x))) k) Q :=
  Entails.of_eq (wp_assume_of _ _ _ _ h).symm

/-- Sixteen inputs counted. -/
theorem wp_countP {Q : PUnit → sProp 𝕄} {X : ℕ → F .f32} {B : ℕ} {f : Vec F S32768 .f32} (hf : Holds X B f) {o : Fin 1 → ℕ} {p : ℕ} (e : o = ![p])
    (ho : ∀ a, o a + S16.size a ≤ S32768.size a) {base n : ℕ} (hp : B + p = base + 16 * n) (k : KP (F := F) i) :
    iprop(bPts d i f ∗ hPts d i (histN X base n)) ⊢ iprop((iprop(bPts d i f ∗ hPts d i (histN X base (n + 1))) -∗ WP d i k Q)
      -∗ WP d i (countP i o ho k) Q) := by
  unfold countP
  iintro ⟨Hb, Hh⟩ Hk
  iapply (wp_loadB hf e ho) $$ Hb
  iintro Hb
  iapply (wp_chk (chk _))
  iapply (wp_scatH (vecAt X (B + p)) (chk _)) $$ Hh
  iintro Hh
  iapply Hk
  isplitl [Hb]; · iexact Hb
  rw [hp]
  iexact Hh

omit [FloatOps F] [Cert.KernelIdeal.Facts] in
theorem trips_eq : k0_t1_loop.trips = 256 := by decide

/-- One trip of the counting loop: a hundred and twenty-eight inputs counted. -/
theorem wp_tripP {X : ℕ → F .f32} {B : ℕ} {f : Vec F S32768 .f32} (hf : Holds X B f) {base n₀ : ℕ} (hp : B = base + 16 * n₀) (t : Fin k0_t1_loop.trips) :
    iprop(bPts d i f ∗ hPts d i (histN X base (n₀ + 8 * t.val)))
      ⊢ WP d i (tripP i t) fun _ => iprop(bPts d i f ∗ hPts d i (histN X base (n₀ + 8 * (t.val + 1)))) := by
  unfold tripP
  iintro H
  iapply (wp_countP hf (Gen.k0_off2_eq t) _ (base := base) (n := n₀ + 8 * t.val) (by omega)) $$ H; iintro H
  iapply (wp_countP hf (Gen.k0_off3_eq t) _ (base := base) (n := n₀ + 8 * t.val + 1) (by omega)) $$ H; iintro H
  iapply (wp_countP hf (Gen.k0_off4_eq t) _ (base := base) (n := n₀ + 8 * t.val + 2) (by omega)) $$ H; iintro H
  iapply (wp_countP hf (Gen.k0_off5_eq t) _ (base := base) (n := n₀ + 8 * t.val + 3) (by omega)) $$ H; iintro H
  iapply (wp_countP hf (Gen.k0_off6_eq t) _ (base := base) (n := n₀ + 8 * t.val + 4) (by omega)) $$ H; iintro H
  iapply (wp_countP hf (Gen.k0_off7_eq t) _ (base := base) (n := n₀ + 8 * t.val + 5) (by omega)) $$ H; iintro H
  iapply (wp_countP hf (Gen.k0_off8_eq t) _ (base := base) (n := n₀ + 8 * t.val + 6) (by omega)) $$ H; iintro H
  iapply (wp_countP hf (Gen.k0_off9_eq t) _ (base := base) (n := n₀ + 8 * t.val + 7) (by omega)) $$ H; iintro H
  iapply (wp_done (Q := fun _ => iprop(bPts d i f ∗ hPts d i (histN X base (n₀ + 8 * t.val + 8)))))
  iexact H

/-- The counting loop: the chunk in the input buffer counted. -/
theorem wp_loopP {Q : PUnit → sProp 𝕄} {X : ℕ → F .f32} {B : ℕ} {f : Vec F S32768 .f32} (hf : Holds X B f) {base n₀ : ℕ} (hp : B = base + 16 * n₀) (k : KP (F := F) i) :
    iprop(bPts d i f ∗ hPts d i (histN X base n₀)) ⊢ iprop((iprop(bPts d i f ∗ hPts d i (histN X base (n₀ + 2048))) -∗ WP d i k Q)
      -∗ WP d i (loopP i >>= fun _ => k) Q) := by
  iintro H Hk
  iapply (Scf.wp_for_bind frame (wpE (defs₀ (F := F)) 𝒱₀ (thr d i) none) Set.univ k0_t1_loop.lb k0_t1_loop.ub k0_t1_loop.st k0_t1_ok PUnit.unit
    (fun t _ => tripP i t) (fun t _ => iprop(bPts d i f ∗ hPts d i (histN X base (n₀ + 8 * t)))) (fun t _ => wp_tripP hf hp t)) $$ H
  iintro %_ H
  iapply Hk
  rw [show n₀ + 2048 = n₀ + 8 * k0_t1_loop.trips by rw [trips_eq]]
  iexact H

/-! ## The copies -/

/-- What the tile's thread owes: `O`, its waits recorded beyond `W` all at no call. -/
def owesW (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

/-- A copy issued and waited for at once: the destination rewritten with what the source holds. -/
theorem wp_copyP {Q : PUnit → sProp 𝕄} {O : CellTallies nD τ sig (HIx 1)} {W : Waits sig (HIx 1)} {sp sp' : Space} {s₀ : Shape}
    {src : Memref sig .scVector sp s₀ .f32} {dst : Memref sig .scVector sp' s₀ .f32} (s : DmaSem sig)
    {hs : src.view.WordExact} {hd : dst.view.WordExact} {hty : DmaTarget.Typed (nD := nD) (τ := τ) (p := (thr d i).2) sp (.dma s) (.here dst)}
    {hs2 : src.view.WordExact} {hd2 : dst.view.WordExact} (hpos : 0 < s₀.numel)
    {Ss : Finset (Idx (src.view.loc (thr d i)))} {Sd : Finset (Idx (dst.view.loc (thr d i)))} (hSs : src.view.set ⊆ Ss) (hSd : dst.view.set ⊆ Sd)
    {fs : Buf (Elt F) (src.view.loc (thr d i))} {fd : Buf (Elt F) (dst.view.loc (thr d i))} (k : KP (F := F) i) :
    iprop(Transfers.MayWaits (thr d i) (none : HIx 1) O ∗ (src.view.loc (thr d i) ↦[Ss]{fullShare} fs) ∗ (dst.view.loc (thr d i) ↦[Sd]{fullShare} fd)
        ∗ semVal (thr d i, SemLoc.dma s) 0 ∗ owesW d i O W)
      ⊢ iprop((iprop((src.view.loc (thr d i) ↦[Ss]{fullShare} fs)
          ∗ (dst.view.loc (thr d i) ↦[Sd]{fullShare} dst.view.write (Elt F) fd (src.view.read (Elt F) fs) Finset.univ)
          ∗ semVal (thr d i, SemLoc.dma s) 0 ∗ owesW d i O W) -∗ WP d i k Q)
        -∗ WP d i (.op (.enqueueDma src (.here dst) (.dma s) hs hd hty) fun _ => .op (.waitDma2 s src dst hs2 hd2) fun _ => k) Q) := by
  unfold owesW
  iintro ⟨Hmw, Hs, Hd, Hsem, %W', %hW', HO⟩ Hk
  ihave Hs2 := (pointsTo_split_subset hSs).1 $$ Hs
  icases Hs2 with ⟨Hs, Hsr⟩
  iapply (Transfers.wp_dmaLocal countersEmb 𝒱₀ (thr d i) none (src := src) (dst := dst) (via := .same) (fs := fs) (fd := fd) (none : HIx 1) (dst.view.amount (.dma s)) rfl
    (View.amount_pos _ _ hpos) hSd) $$ [Hs Hd Hsem]
  · isplitl [Hs]; · iexact Hs
    isplitl [Hd]; · iexact Hd
    iexact Hsem
  iintro Hfl
  iapply (Transfers.wp_waitLocalO countersEmb 𝒱₀ (thr d i) none (none : HIx 1) (N := dst.view.amount (.dma s)) rfl) $$ [Hfl HO Hmw]
  · isplitl [Hfl]; · iexact Hfl
    isplitl [HO]; · iexact HO
    iapply (Transfers.MayWaits.elim _); iexact Hmw
  iintro ⟨⟨Hd, Hs⟩, Hsem, HO⟩
  iapply Hk
  isplitl [Hs Hsr]
  · iapply (pointsTo_split_subset hSs).2
    isplitl [Hs] <;> iassumption
  isplitl [Hd]; · iexact Hd
  isplitl [Hsem]; · iexact Hsem
  iexists _
  isplitr
  rotate_left
  · iexact HO
  · ipureintro; intro p hp
    rcases Finset.mem_insert.mp hp with hp | hp
    · exact .inr (hp ▸ rfl)
    · exact hW' p hp

end Tile

end Cert.Proof.KernelIdeal

end
-- ==== Proof.KernelIdeal.Rows.lean ====
/-
  The tile's run, row by row: a chunk fetched and counted, the lanes summed, a row's results copied out; and the whole
  body, which leaves in the tile's part of the output the results of its six rows.
-/
module

public import proofs.«01_k».proof.Proof.KernelIdeal.Tile

@[expose] public section

noncomputable section

namespace Cert.Proof.KernelIdeal

open Cert.KernelIdeal Cert.KernelIdeal.Facts₀ Cert.KernelIdeal.Facts
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] [Named F] [Cert.KernelIdeal.Facts]

/-- The flat input and the flat output. -/
abbrev xLoc (d : Dev nD) : Loc nD τ sig := (SparseCore.T d).loc main_v0
abbrev oLoc (d : Dev nD) : Loc nD τ sig := (SparseCore.T d).loc main_v1

/-- Worker `w`'s part of the flat input: six rows. -/
def xBlk (w : ℕ) : Finset S50331648.Idx := Finset.univ.filter fun j => (j 0).val / 1572864 = w
/-- Worker `w`'s part of the flat output: six rows. -/
def oBlk (w : ℕ) : Finset S12288.Idx := Finset.univ.filter fun j => (j 0).val / 384 = w

section Tile

variable (d : Dev nD) (i : grid0.Coords)

/-- The tile's worker number. -/
def wid (i : grid0.Coords) : ℕ := 2 * (i 1).val + (i 0).val

abbrev xPts (w : ℕ) (f : Vec F S50331648 .f32) : sProp 𝕄 := xLoc d ↦[xBlk w]{fullShare} f
abbrev oPts (w : ℕ) (f : Vec F S12288 .f32) : sProp 𝕄 := oLoc d ↦[oBlk w]{fullShare} f

/-- The tile's semaphores, all at zero. -/
def sems : sProp 𝕄 := bigSep (Finset.univ : Finset (Fin 54)) fun n => semVal (thr d i, SemLoc.dma (semOf n)) 0

variable {d} {i}

omit [FloatOps F] [Named F] in
theorem xSl_subset (r : Fin 6) (c : Fin 8) : (xSl i r c).view.set ⊆ xBlk (wid i) := by
  intro j hj
  obtain ⟨x, -, e⟩ := Finset.mem_map.mp hj
  have hx : (x 0).val < 32768 := (x 0).isLt
  have e' : (k0_off1 i (BitVec.ofNat 32 r.val) (BitVec.ofNat 32 (32768 * c.val))) 0 + 1 * (x 0).val = (j 0).val := congrArg (fun y : S50331648.Idx => (y 0).val) e
  rw [Gen.k0_off1_eq] at e'
  change 3145728 * (i 1).val + 1572864 * (i 0).val + 262144 * r.val + 32768 * c.val + 1 * (x 0).val = (j 0).val at e'
  refine Finset.mem_filter.mpr ⟨Finset.mem_univ _, ?_⟩
  unfold wid
  omega

omit [FloatOps F] [Named F] in
theorem oSl_subset (r : Fin 6) : (oSl i r).view.set ⊆ oBlk (wid i) := by
  intro j hj
  obtain ⟨x, -, e⟩ := Finset.mem_map.mp hj
  have hx : (x 0).val < 64 := (x 0).isLt
  have e' : (k0_off66 i (BitVec.ofNat 32 r.val)) 0 + 1 * (x 0).val = (j 0).val := congrArg (fun y : S12288.Idx => (y 0).val) e
  rw [Gen.k0_off66_eq] at e'
  change 768 * (i 1).val + 384 * (i 0).val + 64 * r.val + 1 * (x 0).val = (j 0).val at e'
  refine Finset.mem_filter.mpr ⟨Finset.mem_univ _, ?_⟩
  unfold wid
  omega

/-- What stays the same through the whole body: the input part, the input buffer at anything, the semaphores at zero,
    what the thread owes. -/
def Res (d : Dev nD) (i : grid0.Coords) (O : CellTallies nD τ sig (HIx 1)) (W : Waits sig (HIx 1)) (fx : Vec F S50331648 .f32) : sProp 𝕄 :=
  iprop(Transfers.MayWaits (thr d i) (none : HIx 1) O ∗ xPts d (wid i) fx ∗ (∃ f, bPts d i f) ∗ sems d i ∗ owesW d i O W)

omit [FloatOps F] [Named F] in
/-- One of the tile's semaphores, and the others. -/
theorem sems_eq (n : Fin 54) : (sems d i : sProp 𝕄)
    = iprop(semVal (thr d i, SemLoc.dma (semOf n)) 0 ∗ bigSep ((Finset.univ : Finset (Fin 54)).erase n) fun n => semVal (thr d i, SemLoc.dma (semOf n)) 0) :=
  SparseCore.bigSep_erase' (Finset.mem_univ n)

variable {O : CellTallies nD τ sig (HIx 1)} {W : Waits sig (HIx 1)} {X : ℕ → F .f32} {fx : Vec F S50331648 .f32}

/-- A chunk fetched: the input buffer holds it. -/
theorem wp_fetchP {Q : PUnit → sProp 𝕄} (n : Fin 54) (r : Fin 6) (c : Fin 8) (hX : ∀ j, fx j = X (j 0).val) (k : KP (F := F) i) :
    Res d i O W fx ⊢ iprop((iprop(Transfers.MayWaits (thr d i) (none : HIx 1) O ∗ xPts d (wid i) fx
          ∗ (∃ f, ⌜Holds X (262144 * (6 * wid i + r.val) + 32768 * c.val) f⌝ ∗ bPts d i f) ∗ sems d i ∗ owesW d i O W) -∗ WP d i k Q)
      -∗ WP d i (fetchP i (semOf n) r c k) Q) := by
  unfold Res fetchP
  rw [sems_eq n]
  iintro ⟨#Hmw, Hx, ⟨%f, Hb⟩, ⟨Hsem, Hsems⟩, HO⟩ Hk
  iapply (wp_copyP (src := xSl i r c) (dst := bW) (semOf n) (by decide) (xSl_subset r c) (Finset.subset_univ _) (fs := fx) (fd := f) k) $$ [Hx Hb Hsem HO]
  · isplitr; · iexact Hmw
    isplitl [Hx]; · iexact Hx
    isplitl [Hb]; · iexact Hb
    isplitl [Hsem]; · iexact Hsem
    iexact HO
  iintro ⟨Hx, Hb, Hsem, HO⟩
  iapply Hk
  isplitr; · iexact Hmw
  isplitl [Hx]; · iexact Hx
  isplitl [Hb]
  · iexists (bW.view.write (Elt F) f ((xSl i r c).view.read (Elt F) fx) Finset.univ)
    isplitr
    · ipureintro
      have e : bW.view.write (Elt F) f ((xSl i r c).view.read (Elt F) fx) Finset.univ = (xSl i r c).view.read (Elt F) fx :=
        View.write_whole_univ cc0_scratch0 f _
      intro j
      rw [e, View.read_apply]
      refine (hX _).trans (congrArg X ?_)
      show (k0_off1 i (BitVec.ofNat 32 r.val) (BitVec.ofNat 32 (32768 * c.val))) 0 + 1 * (j 0).val = _
      rw [Gen.k0_off1_eq]
      show 3145728 * (i 1).val + 1572864 * (i 0).val + 262144 * r.val + 32768 * c.val + 1 * (j 0).val = _
      unfold wid
      omega
    · iexact Hb
  isplitl [Hsem Hsems]
  · isplitl [Hsem] <;> iassumption
  iexact HO

/-- A chunk fetched and counted. -/
theorem wp_chunkP {Q : PUnit → sProp 𝕄} (n : Fin 54) (r : Fin 6) (c : Fin 8) (hX : ∀ j, fx j = X (j 0).val) (k : KP (F := F) i) :
    iprop(hPts d i (histN X (262144 * (6 * wid i + r.val)) (2048 * c.val)) ∗ Res d i O W fx)
      ⊢ iprop((iprop(hPts d i (histN X (262144 * (6 * wid i + r.val)) (2048 * c.val + 2048)) ∗ Res d i O W fx) -∗ WP d i k Q)
        -∗ WP d i (chunkP i (semOf n) r c k) Q) := by
  unfold chunkP
  iintro ⟨Hh, HR⟩ Hk
  iapply (wp_fetchP n r c hX) $$ HR
  iintro ⟨Hmw, Hx, ⟨%f, %hf, Hb⟩, Hsems, HO⟩
  iapply (wp_loopP hf (base := 262144 * (6 * wid i + r.val)) (n₀ := 2048 * c.val) (by omega)) $$ [Hh Hb]
  · isplitl [Hb]; · iexact Hb
    iexact Hh
  iintro ⟨Hb, Hh⟩
  iapply Hk
  isplitl [Hh]; · iexact Hh
  unfold Res
  isplitl [Hmw]; · iexact Hmw
  isplitl [Hx]; · iexact Hx
  isplitl [Hb]; · iexists f; iexact Hb
  isplitl [Hsems]; · iexact Hsems
  iexact HO

/-- The row's last `n` chunks, the others being counted already: the whole row is counted. -/
theorem wp_chunksP {Q : PUnit → sProp 𝕄} (r : Fin 6) (hX : ∀ j, fx j = X (j 0).val) (k : KP (F := F) i) : ∀ n ≤ 8, ∀ m, m = 2048 * (8 - n) →
    iprop(hPts d i (histN X (262144 * (6 * wid i + r.val)) m) ∗ Res d i O W fx)
      ⊢ iprop((iprop(hPts d i (histN X (262144 * (6 * wid i + r.val)) 16384) ∗ Res d i O W fx) -∗ WP d i k Q)
        -∗ WP d i (chunksP i r n k) Q)
  | 0, _, m, hm => by
    obtain rfl : m = 16384 := by omega
    iintro H Hk
    iapply Hk; iexact H
  | n + 1, hn, m, hm => by
    unfold chunksP rowSem
    subst hm
    iintro H Hk
    iapply (wp_chunkP _ r ⟨8 - (n + 1), _⟩ hX) $$ H
    iintro H
    iapply (wp_chunksP r hX k n (by omega) _ (show 2048 * (8 - (n + 1)) + 2048 = 2048 * (8 - n) by omega)) $$ H
    iexact Hk

/-- The sum over the last `n` lanes added to the sum over the others: the sum over all. -/
theorem wp_accP {Q : PUnit → sProp 𝕄} (q : Fin 4) (g : Vec F S1024 .f32) (k : FVec F S16 .f32 → KP (F := F) i) :
    ∀ n ≤ 15, ∀ acc : FVec F S16 .f32, acc = (fun j => accV g (16 * q.val + (j 0).val) (15 - n)) →
    hPts d i g ⊢ iprop((hPts d i g -∗ WP d i (k fun j => accV g (16 * q.val + (j 0).val) 15) Q) -∗ WP d i (accP i q n acc k) Q)
  | 0, _, acc, ha => by
    subst ha
    iintro H Hk
    iapply Hk; iexact H
  | n + 1, hn, acc, ha => by
    unfold accP
    iintro H Hk
    iapply (wp_loadH (4 * (16 - (n + 1)) + q.val) _ g) $$ H
    iintro H
    iapply (wp_accP q g k n (by omega) _ ?_) $$ H
    · subst ha
      funext j
      show FloatOps.addf (accV g (16 * q.val + (j 0).val) (15 - (n + 1))) (hAt g (16 * (4 * (16 - (n + 1)) + q.val) + (j 0).val)) = _
      rw [show 15 - n = (15 - (n + 1)) + 1 by omega]
      show _ = FloatOps.addf _ (hAt g (64 * (15 - (n + 1) + 1) + (16 * q.val + (j 0).val)))
      congr 2
      omega
    · iexact Hk

/-- The results buffer, its first `n` places holding the histogram's results. -/
def qUpTo (d : Dev nD) (i : grid0.Coords) (g : Vec F S1024 .f32) (n : ℕ) : sProp 𝕄 :=
  iprop(∃ f, ⌜∀ j : S64.Idx, (j 0).val < n → f j = outV g (j 0).val⌝ ∗ qPts d i f)

omit [FloatOps F] [Named F] in
theorem write_qR_lt (n : ℕ) (h : n < 4) (f : Vec F S64 .f32) (w : Vec F S16 .f32) (j : S64.Idx) (hj : (j 0).val < 16 * n) :
    (qW.access (qR n h)).write (Elt F) f w Finset.univ j = f j := by
  refine View.write_of_not_mem _ _ _ fun hm => ?_
  rw [View.setOn, Finset.mem_map] at hm
  obtain ⟨x, -, e⟩ := hm
  have e' : (qR n h).emb x = j := e
  have := congrArg (fun y : S64.Idx => (y 0).val) e'
  change 16 * n + 1 * (x 0).val = (j 0).val at this
  omega

omit [FloatOps F] [Named F] in
theorem write_qR_ge (n : ℕ) (h : n < 4) (f : Vec F S64 .f32) (w : Vec F S16 .f32) (j : S64.Idx) (h0 : 16 * n ≤ (j 0).val) (h1 : (j 0).val < 16 * n + 16) :
    (qW.access (qR n h)).write (Elt F) f w Finset.univ j = w (fun a => match a with | 0 => ⟨(j 0).val - 16 * n, show _ < 16 by omega⟩) := by
  have e : (qW.access (qR n h)).emb (fun a => match a with | 0 => ⟨(j 0).val - 16 * n, show _ < 16 by omega⟩ : S16.Idx) = j := by
    show (qR n h).emb _ = j
    funext a
    refine Fin.ext ?_
    match a with
    | 0 =>
      show 16 * n + 1 * ((j 0).val - 16 * n) = (j 0).val
      omega
  conv_lhs => rw [← e]
  exact View.write_emb_of_mem _ _ (Finset.mem_univ _)

theorem wp_loadQ {Q : PUnit → sProp 𝕄} (n : ℕ) (h : n < 4) (f : Vec F S64 .f32) (k : KP (F := F) i) :
    qPts d i f ⊢ iprop((qPts d i f -∗ WP d i k Q)
      -∗ WP d i (.op (.load qW (qR n h).toLoadRect (View.loadsAt_vmem h_S16)) fun _ => k) Q) :=
  wp_load_rect (defs := defs₀ (F := F)) 𝒱₀ (thr d i) none Set.univ (Q := Q) (m := qW) (r := qR n h) (S := Finset.univ) (q := fullShare) (f := f)
    (hl := View.loadsAt_vmem h_S16) (k := fun _ => k) (Finset.subset_univ _)

theorem wp_storeQ {Q : PUnit → sProp 𝕄} (n : ℕ) (h : n < 4) (f : Vec F S64 .f32) (w : Vec F S16 .f32) (k : KP (F := F) i) :
    qPts d i f ⊢ iprop((qPts d i ((qW.access (qR n h)).write (Elt F) f w Finset.univ) -∗ WP d i k Q)
      -∗ WP d i (.op (.store qW (qR n h) w Finset.univ (View.stores_vmem_bits_univ h_S16 rfl) (.inl rfl)) fun _ => k) Q) :=
  wp_store (defs := defs₀ (F := F)) 𝒱₀ (thr d i) none Set.univ (Q := Q) (m := qW) (r := qR n h) (S := Finset.univ) (f := f)
    (hx := View.stores_vmem_bits_univ h_S16 rfl) (hm := .inl rfl) (k := fun _ => k) (Finset.subset_univ _)

/-- Sixteen more results. -/
theorem wp_sumP {Q : PUnit → sProp 𝕄} (q : Fin 4) (g : Vec F S1024 .f32) (k : KP (F := F) i) :
    iprop(hPts d i g ∗ qUpTo d i g (16 * q.val)) ⊢ iprop((iprop(hPts d i g ∗ qUpTo d i g (16 * q.val + 16)) -∗ WP d i k Q)
      -∗ WP d i (sumP i q k) Q) := by
  unfold sumP qUpTo
  iintro ⟨Hh, %f, %hf, Hq⟩ Hk
  iapply (wp_loadH q.val _ g) $$ Hh
  iintro Hh
  iapply (wp_accP q g _ 15 (le_refl _) _ rfl) $$ Hh
  iintro Hh
  iapply (wp_loadQ q.val q.isLt f) $$ Hq
  iintro Hq
  iapply (wp_storeQ q.val q.isLt f) $$ Hq
  iintro Hq
  iapply Hk
  isplitl [Hh]; · iexact Hh
  iexists _
  isplitr
  rotate_left
  · iexact Hq
  · ipureintro
    intro j hj
    by_cases h : (j 0).val < 16 * q.val
    · rw [write_qR_lt _ _ _ _ _ h]; exact hf j h
    · have h0 : 16 * q.val ≤ (j 0).val := by omega
      rw [write_qR_ge _ _ _ _ _ h0 hj]
      show FloatOps.mulf (accV g (16 * q.val + ((j 0).val - 16 * q.val)) 15) scaleC = outV g (j 0).val
      rw [Nat.add_sub_cancel' h0]
      rfl

/-- The worker's part of the output, its first `r` rows holding their results. -/
def oUpTo (d : Dev nD) (i : grid0.Coords) (X : ℕ → F .f32) (r : ℕ) : sProp 𝕄 :=
  iprop(∃ f, ⌜∀ j : S12288.Idx, (j 0).val / 384 = wid i → (j 0).val < 384 * wid i + 64 * r → f j = outVal X ((j 0).val / 64) ((j 0).val % 64)⌝ ∗ oPts d (wid i) f)

/-- A row's results copied out. -/
theorem wp_flushP {Q : PUnit → sProp 𝕄} (n : Fin 54) (r : Fin 6) (k : KP (F := F) i) :
    iprop(qUpTo d i (histN X (262144 * (6 * wid i + r.val)) 16384) 64 ∗ oUpTo d i X r.val ∗ Res d i O W fx)
      ⊢ iprop((iprop((∃ f, qPts d i f) ∗ oUpTo d i X (r.val + 1) ∗ Res d i O W fx) -∗ WP d i k Q)
        -∗ WP d i (flushP i (semOf n) r k) Q) := by
  unfold flushP Res qUpTo oUpTo
  rw [sems_eq n]
  iintro ⟨⟨%fq, %hq, Hq⟩, ⟨%fo, %ho, Ho⟩, #Hmw, Hx, Hb, ⟨Hsem, Hsems⟩, HO⟩ Hk
  iapply (wp_copyP (src := qW) (dst := oSl i r) (semOf n) (by decide) (Finset.subset_univ _) (oSl_subset r) (fs := fq) (fd := fo) k) $$ [Hq Ho Hsem HO]
  · isplitr; · iexact Hmw
    isplitl [Hq]; · iexact Hq
    isplitl [Ho]; · iexact Ho
    isplitl [Hsem]; · iexact Hsem
    iexact HO
  iintro ⟨Hq, Ho, Hsem, HO⟩
  iapply Hk
  isplitl [Hq]; · iexists fq; iexact Hq
  isplitl [Ho]
  · iexists _
    isplitr
    rotate_left
    · iexact Ho
    · ipureintro
      intro j hj hlt
      have hoff : ∀ x : S64.Idx, (((oSl i r).view.emb x : S12288.Idx) 0).val = 384 * wid i + 64 * r.val + (x 0).val := by
        intro x
        show (k0_off66 i (BitVec.ofNat 32 r.val)) 0 + 1 * (x 0).val = _
        rw [Gen.k0_off66_eq]
        show 768 * (i 1).val + 384 * (i 0).val + 64 * r.val + 1 * (x 0).val = _
        unfold wid
        omega
      by_cases h : (j 0).val < 384 * wid i + 64 * r.val
      · rw [View.write_of_not_mem]
        · exact ho j hj h
        · intro hm
          obtain ⟨x, -, e⟩ := Finset.mem_map.mp hm
          have := hoff x
          rw [e] at this
          omega
      · have hx : (j 0).val - (384 * wid i + 64 * r.val) < 64 := by omega
        have e : (oSl i r).view.emb (fun a => match a with | 0 => ⟨(j 0).val - (384 * wid i + 64 * r.val), hx⟩ : S64.Idx) = j := by
          funext a
          refine Fin.ext ?_
          match a with
          | 0 =>
            refine (hoff _).trans ?_
            show 384 * wid i + 64 * r.val + ((j 0).val - (384 * wid i + 64 * r.val)) = (j 0).val
            omega
        conv_lhs => rw [← e]
        rw [View.write_emb_of_mem _ _ (Finset.mem_univ _)]
        refine (hq _ hx).trans ?_
        unfold outVal
        rw [show (j 0).val / 64 = 6 * wid i + r.val by omega]
        show outV _ ((j 0).val - (384 * wid i + 64 * r.val)) = _
        congr 1
        omega
  isplitr; · iexact Hmw
  isplitl [Hx]; · iexact Hx
  isplitl [Hb]; · iexact Hb
  isplitl [Hsem Hsems]
  · isplitl [Hsem] <;> iassumption
  iexact HO

/-- What a row's run starts from and leaves: histogram and results buffers at anything, the first `r` rows of the output
    part done. -/
def RowSt (d : Dev nD) (i : grid0.Coords) (O : CellTallies nD τ sig (HIx 1)) (W : Waits sig (HIx 1)) (X : ℕ → F .f32) (fx : Vec F S50331648 .f32) (r : ℕ) : sProp 𝕄 :=
  iprop((∃ f, hPts d i f) ∗ (∃ f, qPts d i f) ∗ oUpTo d i X r ∗ Res d i O W fx)

/-- One row. -/
theorem wp_rowP {Q : PUnit → sProp 𝕄} (r : Fin 6) (n : ℕ) (hn : r.val = n) (hX : ∀ j, fx j = X (j 0).val) (k : KP (F := F) i) :
    RowSt d i O W X fx n ⊢ iprop((RowSt d i O W X fx (n + 1) -∗ WP d i k Q) -∗ WP d i (rowP i r k) Q) := by
  subst hn
  unfold RowSt rowP
  iintro ⟨⟨%fh, Hh⟩, ⟨%fq, Hq⟩, Ho, HR⟩ Hk
  iapply (wp_zeroP _ 64 (le_refl _) fh fun j hj => absurd hj (by omega)) $$ Hh
  iintro Hh
  iapply (wp_chunksP r hX _ 8 (le_refl _) 0 rfl) $$ [Hh HR]
  · isplitl [Hh]; · iexact Hh
    iexact HR
  iintro ⟨Hh, HR⟩
  iapply (wp_sumP 0 (histN X (262144 * (6 * wid i + r.val)) 16384)) $$ [Hh Hq]
  · isplitl [Hh]; · iexact Hh
    unfold qUpTo
    iexists fq; isplitr
    · ipureintro; intro j hj; exact absurd hj (Nat.not_lt_zero _)
    · iexact Hq
  iintro H
  iapply (wp_sumP 1 (histN X (262144 * (6 * wid i + r.val)) 16384)) $$ H; iintro H
  iapply (wp_sumP 2 (histN X (262144 * (6 * wid i + r.val)) 16384)) $$ H; iintro H
  iapply (wp_sumP 3 (histN X (262144 * (6 * wid i + r.val)) 16384)) $$ H; iintro ⟨Hh, Hq⟩
  iapply (wp_flushP _ r) $$ [Hq Ho HR]
  · isplitl [Hq]; · iexact Hq
    isplitl [Ho]; · iexact Ho
    iexact HR
  iintro ⟨Hq, Ho, HR⟩
  iapply Hk
  isplitl [Hh]; · iexists _; iexact Hh
  isplitl [Hq]; · iexact Hq
  isplitl [Ho]; · iexact Ho
  iexact HR

/-- The body: six rows. -/
theorem wp_bodyP (hX : ∀ j, fx j = X (j 0).val) :
    RowSt d i O W X fx 0 ⊢ WP d i (bodyP i) fun _ => RowSt d i O W X fx 6 := by
  unfold bodyP
  iintro H
  iapply (wp_rowP 0 0 rfl hX) $$ H; iintro H
  iapply (wp_rowP 1 1 rfl hX) $$ H; iintro H
  iapply (wp_rowP 2 2 rfl hX) $$ H; iintro H
  iapply (wp_rowP 3 3 rfl hX) $$ H; iintro H
  iapply (wp_rowP 4 4 rfl hX) $$ H; iintro H
  iapply (wp_rowP 5 5 rfl hX) $$ H; iintro H
  iapply (wp_done (Q := fun _ => RowSt d i O W X fx 6))
  iexact H

end Tile

end Cert.Proof.KernelIdeal

end
-- ==== Proof.KernelIdeal.BodyEq.lean ====
/-
  The printed body is the composition of the phases (Prog.lean). The two are compared phase by phase: a row's zeroing,
  each of its eight chunks, its four blocks of sums, its copy out; what follows a phase is the same on both sides.
-/
module

public import proofs.«01_k».proof.Proof.KernelIdeal.Prog

@[expose] public section

noncomputable section

namespace Cert.Proof.KernelIdeal

open Cert.KernelIdeal Cert.KernelIdeal.Facts₀ Cert.KernelIdeal.Facts
open Idealize.ShloMosaic Idealize.SL.Sem

variable {F : FTy → Type} [FloatOps F] [Named F] [Cert.KernelIdeal.Facts]

section Congr

variable {i : grid0.Coords}

/-- Programs of the tile with any result. -/
abbrev KPOf (i : grid0.Coords) (β : Type) : Type 1 :=
  Prog (TpuEff nD τ sig (Elt F) Λ₀ (.scVector ((i 0).castLE hcore0) ((i 1).castLE hsub0))) β

/-- The same operation, then equal programs at each response. -/
theorem op_congr {ρ : Type} {e : TpuEff nD τ sig (Elt F) Λ₀ (.scVector ((i 0).castLE hcore0) ((i 1).castLE hsub0)) ρ} {k k' : ρ → KP (F := F) i}
    (h : ∀ v, k v = k' v) : (Prog.op e k : KP (F := F) i) = .op e k' := congrArg _ (funext h)

/-- The counting loop standing inside a window of the program, then equal programs. -/
theorem loop_congr {β : Type} {f : PUnit → KPOf (F := F) i β} {K : β → KP (F := F) i} {k : KP (F := F) i} (h : (f ⟨⟩).bind K = k) :
    ((loopP (F := F) i).bind f).bind K = loopP i >>= fun _ => k := by
  subst h
  exact Prog.bind_assoc _ _ _

/-- A window of the program may be compared with what follows it left unread. -/
theorem window {β : Type} {p : KPOf (F := F) i β} {K : β → KP (F := F) i} {k : KP (F := F) i}
    (h : ∀ K', K' = K → p.bind K' = k) : p.bind K = k := h K rfl

/-- The end of a window. -/
theorem window_end {β : Type} {r : β} {K : β → KP (F := F) i} {k : KP (F := F) i} (h : K r = k) :
    (Prog.ret r : KPOf (F := F) i β).bind K = k := h

end Congr

set_option maxHeartbeats 4000000 in
set_option maxRecDepth 20000 in
/-- The printed body, on the kernel's arrays and semaphores, is the six rows. -/
theorem body_eq (i : grid0.Coords) :
    cc0__body (F := F) i xW (Memref.isWhole_whole _) oW (Memref.isWhole_whole _) bW (Memref.isWhole_whole _) hW (Memref.isWhole_whole _) qW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 = bodyP i := by
  unfold bodyP cc0__body
  repeat
    refine window fun K hK => ?_
    repeat first | refine op_congr fun _ => ?_ | refine loop_congr ?_
    refine window_end ?_
    subst hK
  rfl

end Cert.Proof.KernelIdeal

end
-- ==== Proof.KernelIdeal.Launch.lean ====
/-
  The launch: the kernel's call on the two SparseCores' thirty-two tiles, each with its six rows of the flat input and of
  the flat output, between the two reshapes of the surrounding program; and the whole program's run, which leaves the
  input as it was and the result computed row by row (Model.lean).
-/
module

public import proofs.«01_k».proof.Proof.KernelIdeal.Rows
public import proofs.«01_k».proof.Proof.KernelIdeal.BodyEq

@[expose] public section

noncomputable section

namespace Cert.Proof.KernelIdeal

open Cert.KernelIdeal Cert.KernelIdeal.Facts₀ Cert.KernelIdeal.Facts Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Tactic

variable {F : FTy → Type}
local notation "𝕄" => MT nD τ sig (HIx 1) (Elt F) ℕ UU ℕ

variable [FloatOps F] [Named F]

/-! ## The launch's set-up -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The values -/

abbrev aLoc (d : Dev nD) : Loc nD τ sig := (SparseCore.T d).loc main_arg0
abbrev rLoc (d : Dev nD) : Loc nD τ sig := (SparseCore.T d).loc main_v2

/-- The flat input: the argument, reshaped. -/
def fxOf (d : Dev nD) : Vec F S50331648 .f32 := shapeCast S50331648 (m (aLoc d) : Vec F S64x3x512x512 .f32) Gen.shapeCasts_S64x3x512x512_S50331648

/-- The flat input by element number. -/
def XOf (d : Dev nD) (n : ℕ) : F .f32 := fxOf m d fun | 0 => ⟨n % 50331648, Nat.mod_lt _ (by decide)⟩ | ⟨_ + 1, h⟩ => absurd h (Nat.not_lt.2 (Nat.le_add_left _ _))

omit [FloatOps F] [Named F] in
theorem fxOf_eq (d : Dev nD) (j : S50331648.Idx) : fxOf m d j = XOf m d (j 0).val := by
  unfold XOf
  refine congrArg (fxOf m d) (funext fun a => ?_)
  match a with
  | 0 => exact Fin.ext (Nat.mod_eq_of_lt (j 0).isLt).symm

/-- The flat output: each row's results. -/
def outOf (d : Dev nD) : Vec F S12288 .f32 := fun j => outVal (XOf m d) ((j 0).val / 64) ((j 0).val % 64)

/-- The result: the flat output, reshaped. -/
def resOf (d : Dev nD) : Vec F S64x192 .f32 := shapeCast S64x192 (outOf m d) Gen.shapeCasts_S12288_S64x192

/-! ## What the call hands the tiles and takes back -/

/-- Tile `s` of SparseCore `c` takes its part of the flat input and of the flat output, -/
abbrev goT (d : Dev nD) (c s : ℕ) : sProp 𝕄 := iprop(xPts d (2 * s + c) (fxOf m d) ∗ oPts d (2 * s + c) (m (oLoc d)))
/-- and gives them back, the output computed. -/
abbrev tdT (d : Dev nD) (c s : ℕ) : sProp 𝕄 := iprop(xPts d (2 * s + c) (fxOf m d) ∗ oPts d (2 * s + c) (outOf m d))

def P : (K (F := F)).Pay (nD := nD) (Val := Elt F) (Name := ℕ) (U := UU) where
  st := fun _ d c => bigSep Finset.univ fun s : Fin 16 => goT m d c.val s.val
  dn := fun _ d c => bigSep Finset.univ fun s : Fin 16 => tdT m d c.val s.val
  go := fun _ d c s => goT m d c.val s.val
  td := fun _ d c s => tdT m d c.val s.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The body on a tile -/

section Tile

variable (d : Dev nD) (i : grid0.Coords)

theorem semOf_inj {a b : Fin 54} (h : semOf a = semOf b) : a = b := by
  revert a b; decide

theorem semOf_scoped (n : Fin 54) : (SemLoc.dma (semOf n) : SemLoc sig).isScoped .scVector = true := by
  revert n; decide

/-- The tile's semaphores as cells. -/
def cells : Finset (GSem nD τ sig) :=
  (Finset.univ : Finset (Fin 54)).map ⟨fun n => (thr d i, SemLoc.dma (semOf n)), fun a b e => semOf_inj (SemLoc.dma.inj (Prod.mk.inj e).2)⟩

theorem cells_subset : cells d i ⊆ ownCells (thr d i) := by
  intro g hg
  obtain ⟨n, -, rfl⟩ := Finset.mem_map.mp hg
  refine mem_ownCells.mpr ⟨rfl, ?_⟩
  exact semOf_scoped n

omit [FloatOps F] [Named F] in
/-- The body's semaphores are among the tile's own. -/
theorem ownSems0_V : (ownSems0 (thr d i) : sProp 𝕄) = iprop(sems d i ∗ bigSep (ownCells (thr d i) \ cells d i) fun g => semVal g 0) := by
  unfold SparseCore.Cfg.ownSems0 sems
  rw [← Finset.union_sdiff_of_subset (cells_subset d i), SparseCore.bigSep_union' Finset.disjoint_sdiff]
  rw [Finset.union_sdiff_of_subset (cells_subset d i)]
  refine congrArg (fun A => iprop(A ∗ _)) ?_
  unfold cells
  rw [bigSep_map]; rfl

omit [FloatOps F] [Named F] in
/-- The body's three buffers are among the tile's own. -/
theorem ownBufs_V :
    (ownBufs (thr d i) : sProp 𝕄)
      = iprop((∃ f, bPts d i f) ∗ (∃ f, hPts d i f) ∗ (∃ f, qPts d i f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]
  rfl

/-- What of the tile's own the body never touches. -/
def Rest : sProp 𝕄 :=
  iprop((bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f))
    ∗ bigSep (ownCells (thr d i) \ cells d i) fun g => semVal g 0)

/-- Six rows computed are the tile's part of the flat output. -/
theorem oUpTo_six : oUpTo d i (XOf m d) 6 ⊢ (oPts d (wid i) (outOf m d) : sProp 𝕄) := by
  unfold oUpTo
  iintro ⟨%f, %hf, Ho⟩
  iapply (Entails.of_eq (pointsTo_congr (ℓ := oLoc d) (I := oBlk (wid i)) (q := fullShare) (f := f) (g := outOf m d) fun j hj => ?_))
  rotate_left
  · iexact Ho
  have h := (Finset.mem_filter.mp hj).2
  exact hf j h (by omega)

/-- The body on a tile: from its parts of the input and the output to the output computed. -/
theorem tile_body (hF : (K (F := F)).Facts) (O : CellTallies nD τ sig (HIx 1)) (W : Waits sig (HIx 1)) (hO : ∀ g, O g none = 0) :
    iprop(levAts (K (F := F)).L (K (F := F)).lev ∗ emp ∗ (xPts d (wid i) (fxOf m d) ∗ oPts d (wid i) (m (oLoc d)))
        ∗ scopedBufs (thr d i) ∗ scopedSems0 (thr d i) ∗ owes (thr d i) O W)
      ⊢ WP d i (bodyP i) fun _ => iprop((xPts d (wid i) (fxOf m d) ∗ oPts d (wid i) (outOf m d)) ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_V, ownBufs_V]
  refine BI.Entails.trans ?_ ((BI.Laws.sep_mono_left (Q := Rest d i) (wp_bodyP (d := d) (i := i) (O := O) (W := W) (fxOf_eq m d))).trans
    ((wp_frame_r frame _ _).trans (wp_mono frame _ _ fun _ => ?_)))
  rotate_left
  · unfold RowSt Res owesW Rest
    iintro ⟨⟨Hh, Hq, Ho, -, Hx, Hb, Hsem, HO⟩, Hbufs, Hsems⟩
    ihave Ho := (oUpTo_six m d i) $$ Ho
    isplitl [Hx Ho]
    · isplitl [Hx]; · iexact Hx
      iexact Ho
    isplitl [Hb Hh Hq Hbufs]
    · isplitl [Hb]; · iexact Hb
      isplitl [Hh]; · iexact Hh
      isplitl [Hq]; · iexact Hq
      iexact Hbufs
    isplitl [Hsem Hsems]
    · isplitl [Hsem]; · iexact Hsem
      iexact Hsems
    iexact HO
  show iprop(_) ⊢ iprop(RowSt d i O W (XOf m d) (fxOf m d) 0 ∗ Rest d i)
  iintro ⟨#Hlv, -, ⟨Hx, Ho⟩, ⟨Hb, Hh, Hq, Hbufs⟩, ⟨Hsem, Hsems⟩, HO⟩
  ihave Hmw := ((K (F := F)).mayWaits_none (thr := thr d i) hO) $$ Hlv
  isplitr [Hbufs Hsems]
  rotate_left
  · unfold Rest
    isplitl [Hbufs]; · iexact Hbufs
    iexact Hsems
  unfold RowSt Res owesW oUpTo
  isplitl [Hh]; · iexact Hh
  isplitl [Hq]; · iexact Hq
  isplitl [Ho]
  · iexists (m (oLoc d)); isplitr
    · ipureintro
      intro j h1 h2
      exact absurd h2 (by omega)
    · iexact Ho
  isplitl [Hmw]; · iexact Hmw
  isplitl [Hx]; · iexact Hx
  isplitl [Hb]; · iexact Hb
  isplitl [Hsem]; · iexact Hsem
  iexists W; isplitr
  · ipureintro; exact fun p hp => .inl hp
  · iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Gen.hcore0 Gen.hsub0 (fun c s => cc0__body (F := F) (coordsV c s) xW (Memref.isWhole_whole _) oW (Memref.isWhole_whole _) bW (Memref.isWhole_whole _) hW (Memref.isWhole_whole _) qW (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53) ⟨⟩ c s := rfl

omit [FloatOps F] [Named F] in
/-- Nothing of the kernel waits at the launch's own index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [body_eq]
  exact (tile_body m d (coordsV ⟨_, hc.1⟩ ⟨_, hc.2⟩) hF O W hO).trans (wp_mono frame _ _ fun _ => obl_post)

theorem vecSplit : (K (F := F)).VecSplit' (P m) 0 := by
  intro d c
  show (bigSep Finset.univ fun s : Fin 16 => goT m d c.val s.val) ⊢ |={Set.univ}=> iprop(
      (bigSep Finset.univ fun s : Fin 16 => goT m d c.val s.val)
      ∗ ((bigSep Finset.univ fun s : Fin 16 => tdT m d c.val s.val) -∗ bigSep Finset.univ fun s : Fin 16 => tdT m d c.val s.val))
  iintro H; imodintro
  isplitl [H]; · iexact H
  iintro H; iexact H

/-! ## The launch element -/

def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The flat arrays, dealt to the workers -/

omit [FloatOps F] [Named F] in
/-- An array held whole is its thirty-two workers' parts, by SparseCore and tile. -/
theorem blocks_eq (ℓ : Loc nD τ sig) (g : Idx ℓ → ℕ) (hg : ∀ j, g j < 32) (f : Buf (Elt F) ℓ) :
    (ℓ ↦{fullShare} f : sProp 𝕄)
      = bigSep Finset.univ fun c : Fin 2 => bigSep Finset.univ fun s : Fin 16 => ℓ ↦[Finset.univ.filter fun j => g j = 2 * s.val + c.val]{fullShare} f := by
  have h1 : ∀ c : Fin 2, (bigSep Finset.univ fun s : Fin 16 => (ℓ ↦[Finset.univ.filter fun j => g j = 2 * s.val + c.val]{fullShare} f : sProp 𝕄))
      = ℓ ↦[Finset.univ.filter fun j => g j % 2 = c.val]{fullShare} f := fun c => by
    rw [← pointsTo_biUnion Finset.univ (ℓ := ℓ) (fun s : Fin 16 => Finset.univ.filter fun j => g j = 2 * s.val + c.val)
      (fun s _ s' _ h => Finset.disjoint_filter.mpr fun j _ e e' => h (Fin.ext (by omega)))]
    congr 1
    ext j
    have hj := hg j
    have hc := c.isLt
    simp only [Finset.mem_biUnion, Finset.mem_filter, Finset.mem_univ, true_and]
    exact ⟨fun ⟨s, e⟩ => by omega, fun e => ⟨⟨g j / 2, by omega⟩, by show g j = 2 * (g j / 2) + c.val; omega⟩⟩
  rw [bigSep_congr fun c _ => h1 c,
    ← pointsTo_biUnion Finset.univ (ℓ := ℓ) (fun c : Fin 2 => Finset.univ.filter fun j => g j % 2 = c.val)
      (fun s _ s' _ h => Finset.disjoint_filter.mpr fun j _ e e' => h (Fin.ext (by omega)))]
  congr 1
  ext j
  simp only [Finset.mem_biUnion, Finset.mem_filter, Finset.mem_univ, true_and]
  exact ⟨fun _ => ⟨⟨g j % 2, by omega⟩, rfl⟩, fun _ => trivial⟩

omit [FloatOps F] [Named F] in
theorem xPts_blocks (d : Dev nD) (f : Vec F S50331648 .f32) :
    (xLoc d ↦{fullShare} f : sProp 𝕄) = bigSep Finset.univ fun c : Fin 2 => bigSep Finset.univ fun s : Fin 16 => xPts d (2 * s.val + c.val) f :=
  blocks_eq (xLoc d) (fun j : S50331648.Idx => (j 0).val / 1572864) (fun j => by
    have h : (j 0).val < 50331648 := (j 0).isLt
    show (j 0).val / 1572864 < 32
    omega) f
omit [FloatOps F] [Named F] in
theorem oPts_blocks (d : Dev nD) (f : Vec F S12288 .f32) :
    (oLoc d ↦{fullShare} f : sProp 𝕄) = bigSep Finset.univ fun c : Fin 2 => bigSep Finset.univ fun s : Fin 16 => oPts d (2 * s.val + c.val) f :=
  blocks_eq (oLoc d) (fun j : S12288.Idx => (j 0).val / 384) (fun j => by
    have h : (j 0).val < 12288 := (j 0).isLt
    show (j 0).val / 384 < 32
    omega) f

/-- What the call takes is the two flat arrays, -/
theorem st0_eq (d : Dev nD) : (bigSep Finset.univ fun c : Fin ((K (F := F)).nCore 0) => (P m).st 0 d c)
    = iprop((xLoc d ↦{fullShare} fxOf m d) ∗ oLoc d ↦{fullShare} m (oLoc d)) := by
  show (bigSep (Finset.univ : Finset (Fin 2)) fun c => bigSep Finset.univ fun s : Fin 16 => goT m d c.val s.val) = _
  rw [xPts_blocks, oPts_blocks, ← bigSep_sep']
  exact bigSep_congr fun c _ => bigSep_sep' _ _ _
/-- and what it gives back is the two flat arrays, the output computed. -/
theorem dn0_eq (d : Dev nD) : (bigSep Finset.univ fun c : Fin ((K (F := F)).nCore 0) => (P m).dn 0 d c)
    = iprop((xLoc d ↦{fullShare} fxOf m d) ∗ oLoc d ↦{fullShare} outOf m d) := by
  show (bigSep (Finset.univ : Finset (Fin 2)) fun c => bigSep Finset.univ fun s : Fin 16 => tdT m d c.val s.val) = _
  rw [xPts_blocks, oPts_blocks, ← bigSep_sep']
  exact bigSep_congr fun c _ => bigSep_sep' _ _ _

/-! ## The surrounding program -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 (rfl : (.f32 : EltTy) = .f32) Gen.shapeCasts_S64x3x512x512_S50331648
abbrev opOut : HloOp τ sig (Elt F) := StableHlo.reshape main_v1 main_v2 (rfl : (.f32 : EltTy) = .f32) Gen.shapeCasts_S12288_S64x192

/-- The surrounding program's arrays. -/
abbrev S4 : Finset (DevRef τ sig) := {a', x', o', r'}

omit [FloatOps F] [Named F] in
theorem held_S4 (d : Dev nD) (W : Valuation τ sig (Elt F)) :
    (held (T d) S4 W : sProp 𝕄) = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; and, after the call, the flat arrays at their values. -/
def V0 (d : Dev nD) : Valuation τ sig (Elt F) := fun b => m (d, b)
def V1 (d : Dev nD) : Valuation τ sig (Elt F) := Function.update (Function.update (V0 m d) x' (fxOf m d)) o' (outOf m d)

omit [FloatOps F] [Named F] in
theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) :=
  (Function.update_of_ne (show a' ≠ o' by decide) _ _).trans (Function.update_of_ne (show a' ≠ x' by decide) _ _)
theorem V1_x (d : Dev nD) : V1 m d x' = fxOf m d := (Function.update_of_ne (show x' ≠ o' by decide) _ _).trans (Function.update_self _ _ _)
theorem V1_o (d : Dev nD) : V1 m d o' = outOf m d := Function.update_self _ _ _
theorem V1_r (d : Dev nD) : V1 m d r' = m (rLoc d) :=
  (Function.update_of_ne (show r' ≠ o' by decide) _ _).trans (Function.update_of_ne (show r' ≠ x' by decide) _ _)

theorem held_in (d : Dev nD) : (held (T d) S4 ((opIn (F := F)).result (V0 m d)) : sProp 𝕄)
    = iprop((aLoc d ↦{fullShare} m (aLoc d)) ∗ (xLoc d ↦{fullShare} fxOf m d) ∗ (oLoc d ↦{fullShare} m (oLoc d)) ∗ rLoc d ↦{fullShare} m (rLoc d)) := by
  rw [held_S4, reshape_result_ne' (r := main_arg0) _ _ _ _ _ (by decide), reshape_result' _ _ _ _ _, reshape_result_ne' (r := main_v1) _ _ _ _ _ (by decide),
    reshape_result_ne' (r := main_v2) _ _ _ _ _ (by decide)]
  rfl

theorem held_out (d : Dev nD) : (held (T d) S4 ((opOut (F := F)).result (V1 m d)) : sProp 𝕄)
    = iprop((aLoc d ↦{fullShare} m (aLoc d)) ∗ (xLoc d ↦{fullShare} fxOf m d) ∗ (oLoc d ↦{fullShare} outOf m d) ∗ rLoc d ↦{fullShare} resOf m d) := by
  rw [held_S4, reshape_result_ne' (r := main_arg0) _ _ _ _ _ (by decide), reshape_result_ne' (r := main_v0) _ _ _ _ _ (by decide),
    reshape_result_ne' (r := main_v1) _ _ _ _ _ (by decide), reshape_result' _ _ _ _ _, V1_a, V1_x, V1_o]
  rfl

omit [FloatOps F] [Named F] in
theorem hIn : (opIn (F := F)).bufs ⊆ S4 := show ({a', x'} : Finset (DevRef τ sig)) ⊆ S4 by decide
omit [FloatOps F] [Named F] in
theorem hOut : (opOut (F := F)).bufs ⊆ S4 := show ({o', r'} : Finset (DevRef τ sig)) ⊆ S4 by decide

/-- What the program leaves: the argument as it was, and the result. -/
abbrev FIN (d : Dev nD) : sProp 𝕄 := iprop((aLoc d ↦{fullShare} m (aLoc d)) ∗ rLoc d ↦{fullShare} resOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  rw [wp_ret]; imodintro
  ihave Hh := (Entails.of_eq (held_in (F := F) m d)) $$ Hheld
  icases Hh with ⟨Ha, Hx, Ho, Hr⟩
  iapply ((K (F := F)).wp_run (D (F := F)) 𝒱 (EH := EH) (P := P m) κ d 0) $$ [Hst Ha Hx Ho Hb Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S4) hOut (V := V1 m d)) $$ [Hb Ha Hx Ho Hr]
  · isplitl [Hb]; · iexact Hb
    rw [held_S4, V1_a, V1_x, V1_o, V1_r]
    isplitl [Ha]; · iexact Ha
    isplitl [Hx]; · iexact Hx
    isplitl [Ho]; · iexact Ho
    iexact Hr
  iintro ⟨Hb, Hheld⟩
  ihave Hh := (Entails.of_eq (held_out (F := F) m d)) $$ Hheld
  icases Hh with ⟨Ha, -, -, Hr⟩
  rw [wp_ret]; imodintro; imodintro
  isplitl [Hst]; · iexact Hst
  isplitl [Ha Hr]
  · isplitl [Ha] <;> iassumption
  isplitl [Hb] <;> iassumption

def fq (d : Dev nD) (s' : Phys nD τ sig (Elt F)) : Prop := s'.mem.mem (aLoc d) = m (aLoc d) ∧ s'.mem.mem (rLoc d) = resOf m d

theorem hfin (d : Dev nD) (s' : Phys nD τ sig (Elt F)) : iprop(FIN m d ∗ SI s') ⊢ (⌜fq m d s'⌝ : sProp 𝕄) := by
  iintro ⟨⟨Ha, Hr⟩, HSI⟩
  icombine HSI Ha gives %ha
  icombine HSI Hr gives %hr
  ipureintro; exact ⟨funext fun i => ha i (Finset.mem_univ i), funext fun i => hr i (Finset.mem_univ i)⟩

/-! ## The program's run -/

def QC : PUnit × MemSt nD τ sig (Elt F) → Prop :=
  fun r => (∀ c : Dev nD, r.2.mem (aLoc c) = m (aLoc c) ∧ r.2.mem (rLoc c) = resOf m c) ∧ r.2.sem = fun _ => 0

/-- Every run of the whole program ends, with the argument as it was, the result computed and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Value.Count.lean ====
/-
  Counting: sums of indicators over ranges of positions, cut into equal blocks; and folds that count.
-/
module

public import Mathlib.Algebra.BigOperators.Intervals
public import Mathlib.Algebra.BigOperators.Fin
public import Mathlib.Tactic.Ring

@[expose] public section

namespace Cert.Proof.Value

open Finset

/-- A range cut into `K` blocks of `w`. -/
theorem sum_blocks (f : ℕ → ℕ) (w K : ℕ) : ∑ p ∈ range (w * K), f p = ∑ k ∈ range K, ∑ l ∈ range w, f (w * k + l) := by
  induction K with
  | zero => rfl
  | succ K ih => rw [Nat.mul_succ, sum_range_add, ih, sum_range_succ]

/-- What lies in one of `R` rows of length `L`. -/
theorem sum_row (f : ℕ → ℕ) (L R row : ℕ) (h : row < R) :
    (∑ n ∈ range (L * R), if n / L = row then f n else 0) = ∑ p ∈ range L, f (L * row + p) := by
  have hd : ∀ r p, p ∈ range L → (L * r + p) / L = r := fun r p hp => by
    have hp := mem_range.mp hp
    rw [Nat.mul_add_div (by omega), Nat.div_eq_of_lt hp, Nat.add_zero]
  rw [sum_blocks, sum_eq_single row]
  · exact sum_congr rfl fun p hp => if_pos (hd row p hp)
  · intro r _ hr
    exact sum_eq_zero fun p hp => if_neg (by rw [hd r p hp]; exact hr)
  · intro h'
    exact absurd (mem_range.mpr h) h'

/-- A fold that adds one at each position satisfying `P` adds their number. -/
theorem fold_count_list {α : Type} (P : α → Prop) [DecidablePred P] (l : List α) (a : BitVec 32) :
    l.foldl (fun a n => if P n then a + 1#32 else a) a = a + BitVec.ofNat 32 (l.map fun n => if P n then 1 else 0).sum := by
  induction l generalizing a with
  | nil => simp
  | cons n l ih =>
    rw [List.foldl_cons, ih, List.map_cons, List.sum_cons]
    by_cases h : P n
    · rw [if_pos h, if_pos h, BitVec.ofNat_add, BitVec.add_assoc]
    · rw [if_neg h, if_neg h, Nat.zero_add]

/-- The same over the positions below `N`, from zero. -/
theorem fold_count (N : ℕ) (P : ℕ → Prop) [DecidablePred P] :
    (List.finRange N).foldl (fun a n => if P n.val then a + 1#32 else a) 0#32 = BitVec.ofNat 32 (∑ n ∈ range N, if P n then 1 else 0) := by
  rw [fold_count_list (fun n : Fin N => P n.val), BitVec.zero_add, Finset.sum_range, Fin.sum_univ_def]

/-- A fold over distinct elements that steps at one of them only. -/
theorem fold_one {α β : Type} [DecidableEq α] (P : α → Prop) [DecidablePred P] (step : β → β) (k₀ : α) (p : Prop) [Decidable p]
    (hP : ∀ k, P k ↔ k = k₀ ∧ p) (l : List α) (hl : l.Nodup) (a : β) :
    l.foldl (fun a k => if P k then step a else a) a = if k₀ ∈ l ∧ p then step a else a := by
  induction l generalizing a with
  | nil => rw [if_neg (fun h => by simpa using h.1)]; rfl
  | cons k l ih =>
    have hn := List.nodup_cons.mp hl
    rw [List.foldl_cons, ih hn.2]
    by_cases hk : P k
    · obtain ⟨rfl, hp⟩ := (hP k).mp hk
      rw [if_pos hk, if_neg fun h => hn.1 h.1, if_pos ⟨List.mem_cons_self, hp⟩]
    · rw [if_neg hk]
      by_cases h : k₀ ∈ l ∧ p
      · rw [if_pos h, if_pos ⟨List.mem_cons_of_mem _ h.1, h.2⟩]
      · rw [if_neg h, if_neg]
        rintro ⟨hm, hp⟩
        rcases List.mem_cons.mp hm with e | hm
        · exact hk ((hP k).mpr ⟨e.symm, hp⟩)
        · exact h ⟨hm, hp⟩

end Cert.Proof.Value

end
-- ==== Proof.Value.Bin.lean ====
/-
  The bin of one input at exact arithmetic: clamping the input to `[0, 1]` before the bin is taken changes nothing,
  because the bin is clamped to `[0, 63]` afterwards.
-/
module

public import Idealize.ShloMosaic.PureOps.Ideal

@[expose] public section

namespace Cert.Proof.Value

open Idealize.ShloMosaic

/-- A word clamped to `[0, 63]`, read signed. -/
def clampW (w : BitVec 32) : BitVec 32 := IntOp.minsi 63#32 (IntOp.maxsi 0#32 w)

/-- The bin of an extended real: `64 x` toward zero, clamped. -/
noncomputable def binI (x : EReal) : BitVec 32 := clampW (Ideal.fptosi 32 (x * (64 : ℝ)))

/-- A negative number's word clamps to zero, -/
theorem clampW_nonpos (v : Int) (h : v ≤ 0) (h' : -2147483648 ≤ v) : clampW (BitVec.ofInt 32 v) = 0#32 := by
  have e : (BitVec.ofInt 32 v).toInt = v := by rw [BitVec.toInt_ofInt]; exact Int.bmod_eq_of_le (by omega) (by omega)
  unfold clampW IntOp.minsi IntOp.maxsi
  by_cases h0 : v = 0
  · subst h0; decide
  · rw [if_pos (show (BitVec.ofInt 32 v).slt 0#32 = true by
      rw [BitVec.slt, e]; exact decide_eq_true (by show v < 0; omega))]
    decide

/-- one of 63 and more to 63. -/
theorem clampW_large (v : Int) (h : 63 ≤ v) (h' : v ≤ 2147483647) : clampW (BitVec.ofInt 32 v) = 63#32 := by
  have e : (BitVec.ofInt 32 v).toInt = v := by rw [BitVec.toInt_ofInt]; exact Int.bmod_eq_of_le (by omega) (by omega)
  unfold clampW IntOp.minsi IntOp.maxsi
  rw [if_neg (show ¬ (BitVec.ofInt 32 v).slt 0#32 = true by
      rw [BitVec.slt, e]; exact fun q => by have := of_decide_eq_true q; change v < 0 at this; omega)]
  by_cases h0 : v = 63
  · subst h0; decide
  · rw [if_pos (show (63#32).slt (BitVec.ofInt 32 v) = true by
      rw [BitVec.slt, e]; exact decide_eq_true (by show (63 : Int) < v; omega))]

theorem fptosi_coe (s : ℝ) : Ideal.fptosi 32 (s : EReal) = BitVec.ofInt 32 (max (-2147483648) (min 2147483647 (if 0 ≤ s then ⌊s⌋ else ⌈s⌉))) := rfl

/-- An input of zero or less is in bin 0, -/
theorem binI_nonpos (x : EReal) (h : x ≤ 0) : binI x = 0#32 := by
  induction x using EReal.rec with
  | bot =>
    unfold binI
    rw [EReal.bot_mul_coe_of_pos (by norm_num)]
    exact clampW_nonpos (-2147483648) (by norm_num) (by norm_num)
  | top => exact absurd h (by simp)
  | coe r =>
    have hr : r ≤ 0 := by exact_mod_cast h
    unfold binI
    rw [← EReal.coe_mul, fptosi_coe]
    have hc : (if (0 : ℝ) ≤ r * 64 then ⌊r * 64⌋ else ⌈r * 64⌉) ≤ 0 := by
      split
      · next h0 =>
        have : r * 64 = 0 := by linarith
        rw [this]; simp
      · exact Int.ceil_le.mpr (by push_cast; linarith)
    exact clampW_nonpos _ (by omega) (by omega)

/-- one of one or more is in bin 63. -/
theorem binI_large (x : EReal) (h : 1 ≤ x) : binI x = 63#32 := by
  induction x using EReal.rec with
  | bot => exact absurd (le_bot_iff.mp h) (EReal.coe_ne_bot 1)
  | top =>
    unfold binI
    rw [EReal.top_mul_coe_of_pos (by norm_num)]
    exact clampW_large 2147483647 (by norm_num) (by norm_num)
  | coe r =>
    have hr : 1 ≤ r := by exact_mod_cast h
    unfold binI
    rw [← EReal.coe_mul, fptosi_coe]
    have hc : 63 ≤ (if (0 : ℝ) ≤ r * 64 then ⌊r * 64⌋ else ⌈r * 64⌉) := by
      rw [if_pos (by linarith)]
      exact Int.le_floor.mpr (by push_cast; linarith)
    exact clampW_large _ (by omega) (by omega)

/-- Clamping the input to `[0, 1]` first leaves its bin. -/
theorem binI_clip (x : EReal) : binI (min 1 (max 0 x)) = binI x := by
  rcases le_total x 0 with h | h
  · rw [max_eq_left h, min_eq_right (by norm_num), binI_nonpos x h, binI_nonpos 0 le_rfl]
  · rw [max_eq_right h]
    rcases le_total x 1 with h1 | h1
    · rw [min_eq_right h1]
    · rw [min_eq_left h1, binI_large x h1, binI_large 1 le_rfl]

end Cert.Proof.Value

end
-- ==== Proof.Value.Consts.lean ====
/-
  The float literals of the two programs at exact arithmetic.
-/
module

public import Idealize.ShloMosaic.PureOps.Ideal.Laws

@[expose] public section

namespace Cert.Proof.Value

open Idealize.ShloMosaic

/-- Zero, -/
theorem lit_zero : Ideal.ofBits .f32 0x00000000#32 = 0 := by simp [Ideal.ofBits, Ideal.ieee]

/-- one, -/
theorem lit_one : Ideal.ofBits .f32 0x3F800000#32 = ((1 : ℝ) : EReal) := by
  simp [Ideal.ofBits, Ideal.ieee, -EReal.coe_mul]; norm_num

/-- sixty-four, -/
theorem lit_bins : Ideal.ofBits .f32 0x42800000#32 = ((64 : ℝ) : EReal) := by
  simp [Ideal.ofBits, Ideal.ieee, -EReal.coe_mul]; norm_num

/-- and the small number the reference adds to a row's total. -/
theorem lit_eps : Ideal.ofBits .f32 0x33D6BF95#32 = ((14073749 / 140737488355328 : ℝ) : EReal) := by
  simp [Ideal.ofBits, Ideal.ieee, -EReal.coe_mul]; norm_num

end Cert.Proof.Value

end
-- ==== Proof.Value.Kernel.lean ====
/-
  The idealized kernel's result at exact arithmetic: the number of the row's inputs in the bin, times the scale.
-/
module

public import proofs.«01_k».proof.Proof.KernelIdeal.Model
public import proofs.«01_k».proof.Proof.Value.Count
public import proofs.«01_k».proof.Proof.Value.Bin
public import proofs.«01_k».proof.Proof.Value.Consts

@[expose] public section

noncomputable section

namespace Cert.Proof.Value

open Idealize.ShloMosaic Finset
open Cert.KernelIdeal (S16 S1024)
open Cert.Proof.KernelIdeal

/-- A count as an extended real. -/
def cnt (n : ℕ) : EReal := ((n : ℝ) : EReal)
theorem cnt_add (a b : ℕ) : cnt a + cnt b = cnt (a + b) := by unfold cnt; rw [← EReal.coe_add, Nat.cast_add]

/-- The bin of an extended real, as a number. -/
def bin (x : EReal) : ℕ := (binI x).toNat

theorem bin_lt (x : EReal) : bin x < 64 := Cert.Proof.KernelIdeal.clamp_lt _

/-- The kernel's bin is that one. -/
theorem binN_eq (x : EReal) : binN (F := Ideal) x = bin x := by
  show (clampW (Ideal.fptosi 32 (x * Ideal.ofBits .f32 0x42800000#32))).toNat = _
  rw [lit_bins]; rfl

/-- How many of row `row`'s 262144 inputs are in bin `b`. -/
def rowCount (X : ℕ → EReal) (row b : ℕ) : ℕ := ∑ p ∈ range 262144, if bin (X (262144 * row + p)) = b then 1 else 0

/-- A fold of functions, looked at in one place. -/
theorem fold_at {ι β κ : Type} (step : (ι → β) → κ → ι → β) (P : κ → Prop) [DecidablePred P] (s : β → β) (j : ι)
    (h : ∀ g k, step g k j = if P k then s (g j) else g j) (l : List κ) (g : ι → β) :
    l.foldl step g j = l.foldl (fun a k => if P k then s a else a) (g j) := by
  induction l generalizing g with
  | nil => rfl
  | cons k l ih => rw [List.foldl_cons, List.foldl_cons, ih, h]

variable [Cert.KernelIdeal.Facts]

/-- An adding store of one value `c` at every lane, looked at in one place: `c` is added once for each lane naming it. -/
theorem store_at {N : ℕ} {d : Fin 1 → ℕ} (g : Vec Ideal ⟨1, ![N]⟩ .f32) (w : IVec ⟨1, d⟩ 32) (c : EReal)
    (h : ∀ a x, ((![w] : Fin 1 → IVec ⟨1, d⟩ 32) a x).toNat < (⟨1, ![N]⟩ : Shape).size a) (j : (⟨1, ![N]⟩ : Shape).Idx) :
    storeIdx (F := Ideal) g ![w] (fun _ => c) (fun _ => 1#1) true h j
      = (List.finRange (d 0)).foldl (fun a k => if (j 0).val = (w (Shape.ofLane k)).toNat then a + c else a) (g j) := by
  unfold storeIdx
  refine fold_at (β := EReal) _ (fun k => (j 0).val = (w (Shape.ofLane k)).toNat) (fun a => a + c) j (fun g k => ?_) _ g
  refine (congrFun (if_pos rfl) j).trans ?_
  have hiff : (∀ a, (j a).val = (idxAt ![w] h (Shape.ofLane k) a).val) ↔ (j 0).val = (w (Shape.ofLane k)).toNat :=
    ⟨fun q => q 0, fun q a => by match a with | 0 => exact q⟩
  by_cases q : (j 0).val = (w (Shape.ofLane k)).toNat
  · have e : idxAt ![w] h (Shape.ofLane k) = j := funext fun a => Fin.ext (hiff.mpr q a).symm
    refine (if_pos (hiff.mpr q)).trans (Eq.trans ?_ (if_pos q).symm)
    show (g (idxAt ![w] h (Shape.ofLane k)) : EReal) + c = g j + c
    rw [e]
  · exact (if_neg fun r => q (hiff.mp r)).trans (if_neg q).symm

/-- Slot `n` as an index, -/
def slotIx (n : ℕ) : S1024.Idx := fun a => match a with | 0 => ⟨n % 1024, Nat.mod_lt _ (by decide)⟩
omit [Cert.KernelIdeal.Facts] in
theorem slotIx_val (n : ℕ) (hn : n < 1024) : (slotIx n 0).val = n := Nat.mod_eq_of_lt hn
omit [Cert.KernelIdeal.Facts] in
/-- and the slot read there. -/
theorem hAt_eq (g : Vec Ideal S1024 .f32) (n : ℕ) : hAt (F := Ideal) g n = g (slotIx n) := rfl

/-- Counting sixteen inputs, looked at in one slot: one is added for each lane whose bin it is. -/
theorem scatB_fold (X : ℕ → EReal) (p : ℕ) (g : Vec Ideal S1024 .f32) (j : S1024.Idx) :
    (scatB (F := Ideal) (vecAt X p) g j : EReal)
      = (List.finRange 16).foldl (fun a k => if (j 0).val = 64 * k.val + bin (X (p + k.val)) then a + ((1 : ℝ) : EReal) else a) (g j) := by
  have h1 : (onesV : FVec Ideal S16 .f32) = fun _ => ((1 : ℝ) : EReal) := funext fun _ => lit_one
  unfold scatB
  rw [h1]
  have h2 := store_at (N := 1024) (d := ![16]) g (slotV (F := Ideal) (vecAt X p)) ((1 : ℝ) : EReal) (Cert.KernelIdeal.k0_idx1_inb _ (chk (F := Ideal) (vecAt X p))) j
  refine h2.trans ?_
  refine congrArg (fun st : EReal → Fin 16 → EReal => (List.finRange 16).foldl st (g j)) (funext fun a => funext fun k => ?_)
  have e : (slotV (F := Ideal) (vecAt X p) (Shape.ofLane (d := ![16]) k)).toNat = 64 * k.val + bin (X (p + k.val)) := by
    rw [slotV_toNat, binN_eq]; rfl
  rw [e]

/-- Counting sixteen inputs adds one to a lane's slot for a bin exactly when the lane's input is in the bin. -/
theorem scatB_at (X : ℕ → EReal) (p : ℕ) (g : Vec Ideal S1024 .f32) (n : ℕ) (hn : n < 1024) :
    (hAt (scatB (F := Ideal) (vecAt X p) g) n : EReal) = (hAt g n : EReal) + cnt (if bin (X (p + n / 64)) = n % 64 then 1 else 0) := by
  have hL : n / 64 < 16 := by omega
  rw [hAt_eq, hAt_eq, scatB_fold X p g (slotIx n), slotIx_val n hn]
  rw [fold_one (α := Fin 16) (β := EReal) (fun k => n = 64 * k.val + bin (X (p + k.val))) (fun a => a + ((1 : ℝ) : EReal))
    (⟨n / 64, hL⟩ : Fin 16) (bin (X (p + n / 64)) = n % 64) ?_ _ (List.nodup_finRange _)]
  · by_cases h : bin (X (p + n / 64)) = n % 64
    · rw [if_pos ⟨List.mem_finRange _, h⟩, if_pos h]; simp only [cnt, Nat.cast_one]
    · rw [if_neg fun q => h q.2, if_neg h]; simp only [cnt, Nat.cast_zero, EReal.coe_zero, add_zero]
  · intro k
    have hb := bin_lt (X (p + k.val))
    constructor
    · intro e
      have hk : k.val = n / 64 := by omega
      refine ⟨Fin.ext hk, ?_⟩
      rw [← hk]; omega
    · rintro ⟨rfl, e⟩
      show n = 64 * (n / 64) + bin (X (p + n / 64))
      omega

/-- After `k` groups of sixteen inputs a slot holds the number of its lane's inputs in its bin. -/
theorem histN_at (X : ℕ → EReal) (base n : ℕ) (hn : n < 1024) (k : ℕ) :
    (hAt (histN (F := Ideal) X base k) n : EReal) = cnt (∑ i ∈ range k, if bin (X (base + 16 * i + n / 64)) = n % 64 then 1 else 0) := by
  induction k with
  | zero =>
    show Ideal.ofBits .f32 0x00000000#32 = cnt 0
    rw [lit_zero]; simp [cnt]
  | succ k ih =>
    show (hAt (scatB (F := Ideal) (vecAt X (base + 16 * k)) (histN X base k)) n : EReal) = _
    rw [scatB_at X _ _ n hn, ih, cnt_add, sum_range_succ]

/-- The lanes' slots of a bin, added up, are its count. -/
theorem accV_at (g : Vec Ideal S1024 .f32) (b : ℕ) (c : ℕ → ℕ) (hb : b < 64)
    (h : ∀ l, l < 16 → (hAt g (64 * l + b) : EReal) = cnt (c l)) (n : ℕ) (hn : n < 16) :
    (accV (F := Ideal) g b n : EReal) = cnt (∑ l ∈ range (n + 1), c l) := by
  induction n with
  | zero =>
    have := h 0 (by omega)
    rw [Nat.mul_zero, Nat.zero_add] at this
    rw [Nat.zero_add, sum_range_one]; exact this
  | succ n ih =>
    show (accV (F := Ideal) g b n : EReal) + hAt g (64 * (n + 1) + b) = _
    rw [ih (by omega), h (n + 1) hn, cnt_add, sum_range_succ _ (n + 1)]

omit [Cert.KernelIdeal.Facts] in
/-- A row's positions, lane by lane. -/
theorem sum_lanes (f : ℕ → ℕ) : ∑ p ∈ range 262144, f p = ∑ l ∈ range 16, ∑ i ∈ range 16384, f (16 * i + l) :=
  (sum_blocks f 16 16384).trans sum_comm

/-- The kernel's result for a row and a bin: the count, times the scale. -/
theorem outVal_eq (X : ℕ → EReal) (row b : ℕ) (hb : b < 64) :
    (outVal (F := Ideal) X row b : EReal) = cnt (rowCount X row b) * ((140737488355328 / 36893488147433176981 : ℝ) : EReal) := by
  unfold outVal outV scaleC
  rw [Ideal.mulf_def, IdealRules.named_const.ideal_named_scalar _ _ _ _ rfl]
  refine congrArg (· * _) ?_
  rw [accV_at _ b (fun l => ∑ i ∈ range 16384, if bin (X (262144 * row + 16 * i + l)) = b then 1 else 0) hb ?_ 15 (by omega)]
  · refine congrArg cnt ?_
    unfold rowCount
    rw [show (262144 : ℕ) = 16 * 16384 from rfl, sum_blocks, sum_comm]
    refine sum_congr rfl fun k _ => sum_congr rfl fun l _ => ?_
    rw [Nat.add_assoc]
  · intro l hl
    rw [histN_at X _ _ (by omega), show (64 * l + b) / 64 = l by omega, show (64 * l + b) % 64 = b by omega]

end Cert.Proof.Value

end
-- ==== Proof.Value.Scatter.lean ====
/-
  A scatter that adds one to a vector's elements, one index word for each update: an element ends as the number of words
  that name it.
-/
module

public import proofs.«01_k».proof.Proof.Value.Count
public import Idealize.ShloMosaic.Lib.Routing.OpsPair

@[expose] public section

namespace Cert.Proof.Value

open Idealize.ShloMosaic Finset

/-- Row `n` of the one-column table of index words. -/
def colIx {N : ℕ} (k : (⟨1, ![N]⟩ : Shape).Idx) : (⟨2, ![N, 1]⟩ : Shape).Idx := fun a => match a with
  | 0 => k 0
  | 1 => ⟨0, Nat.one_pos⟩

variable {A N : ℕ} (d : ScatterDims ⟨1, ![A]⟩ ⟨2, ![N, 1]⟩ ⟨1, ![N]⟩) (hiw : d.insertedWindowDims = [0])
  (hsd : d.scatterDimsToOperandDims = [0]) (hiv : d.indexVectorDim = 1)

include hsd hiv in
/-- An update's window starts at its index word, read signed, -/
theorem start_eq (idx : IVec ⟨2, ![N, 1]⟩ 32) (k : (⟨1, ![N]⟩ : Shape).Idx) : d.start k idx 0 = (idx (colIx k)).toInt := by
  have hm : (0 : Fin 1) ∈ d.scatterDimsToOperandDims := by rw [hsd]; exact List.mem_singleton_self _
  refine (dif_pos hm).trans (congrArg (fun i => (idx i).toInt) (funext fun b => Fin.ext ?_))
  match b with
  | 0 =>
    have h0 : ¬ ((0 : Fin 2).val = d.indexVectorDim) := by rw [hiv]; decide
    have e : ∀ c : Fin 1, (k c).val = (k 0).val := fun c => by rw [Subsingleton.elim c 0]
    exact (congrArg Fin.val (dif_neg h0)).trans (e _)
  | 1 =>
    have h1 : (1 : Fin 2).val = d.indexVectorDim := by rw [hiv]; rfl
    refine (congrArg Fin.val (dif_pos h1)).trans ?_
    show List.idxOf (0 : Fin 1) d.scatterDimsToOperandDims = 0
    rw [hsd]; rfl

include hiw in
/-- and is one element. -/
theorem window_eq (k : (⟨1, ![N]⟩ : Shape).Idx) : d.window k 0 = 0 := by
  have hmem : (0 : Fin 1) ∈ d.insertedWindowDims := by rw [hiw]; exact List.mem_singleton_self _
  refine dif_neg fun h => ?_
  have hnot : (0 : Fin 1) ∉ d.insertedWindowDims := of_decide_eq_true (List.mem_filter.mp h).2
  exact hnot hmem

include hiw hsd hiv in
/-- An update lands at the element its word names. -/
theorem lands_iff (idx : IVec ⟨2, ![N, 1]⟩ 32) (k : (⟨1, ![N]⟩ : Shape).Idx) (q : (⟨1, ![A]⟩ : Shape).Idx) :
    d.resultIdx? k idx = some q ↔ (idx (colIx k)).toInt = ((q 0).val : Int) := by
  rw [Routing.resultIdx?_eq_some]
  have e := start_eq d hsd hiv idx k
  have e' := window_eq d hiw k
  constructor
  · intro h
    have h := h 0
    rw [e, e'] at h
    omega
  · intro h a
    match a with
    | 0 =>
      show d.start k idx 0 + (d.window k 0 : Int) = _
      rw [e, e', h]; exact Int.add_zero _

include hiw hsd hiv in
/-- Adding one at each word's element, from zero: an element ends as the number of words naming it. -/
theorem scatter_count (idx : IVec ⟨2, ![N, 1]⟩ 32) (V : ℕ → ℕ) (hV : ∀ k, (idx (colIx k)).toInt = (V (k 0).val : Int))
    (x0 : (⟨1, ![A]⟩ : Shape).Idx → BitVec 32) (h0 : ∀ q, x0 q = 0#32) (u : (⟨1, ![N]⟩ : Shape).Idx → BitVec 32) (hu : ∀ k, u k = 1#32)
    (q : (⟨1, ![A]⟩ : Shape).Idx) :
    Host.scatter d IntOp.addi x0 idx u q = BitVec.ofNat 32 (∑ n ∈ range N, if V n = (q 0).val then 1 else 0) := by
  have hN : (⟨1, ![N]⟩ : Shape).numel = N := by simp [Shape.numel]
  rw [Routing.scatter_at, h0]
  refine Eq.trans ?_ ((fold_count (⟨1, ![N]⟩ : Shape).numel fun n => V n = (q 0).val).trans (by rw [hN]))
  refine congrArg (fun st : BitVec 32 → Fin (⟨1, ![N]⟩ : Shape).numel → BitVec 32 => (List.finRange _).foldl st 0#32) (funext fun a => funext fun n => ?_)
  have hk : (((⟨1, ![N]⟩ : Shape).rowMajor.symm n) 0).val = n.val := by
    rw [← Shape.rowMajor_val_one, Equiv.apply_symm_apply]
  have hiff : d.resultIdx? ((⟨1, ![N]⟩ : Shape).rowMajor.symm n) idx = some q ↔ V n.val = (q 0).val := by
    rw [lands_iff d hiw hsd hiv, hV, hk]
    exact Int.natCast_inj
  by_cases h : V n.val = (q 0).val
  · rw [if_pos (hiff.mpr h), if_pos h, hu]; rfl
  · rw [if_neg fun r => h (hiff.mp r), if_neg h]

end Cert.Proof.Value

end
-- ==== Proof.Value.Reference.lean ====
/-
  The reference's result at exact arithmetic: the number of the row's inputs in the bin, divided by the row's total with
  the small number added.
-/
module

public import proofs.«01_k».proof.Proof.Gen.ReferenceIdeal
public import proofs.«01_k».proof.Proof.Gen.ReferenceIdeal.Run
public import proofs.«01_k».proof.Proof.Value.Kernel
public import proofs.«01_k».proof.Proof.Value.Scatter
public import Idealize.ShloMosaic.Lib.Pointwise.Reduce
public import Idealize.ShloMosaic.Lib.Pipeline.Value

@[expose] public section

noncomputable section

namespace Cert.Proof.Value

open Idealize.ShloMosaic Finset
open Cert.ReferenceIdeal
open Cert.ReferenceIdeal.Gen hiding facts facts₀

/-! ## The reference's stages -/

variable (A : FVec Ideal S64x3x512x512 .f32)

/-- Each input's bin, -/
def refBin : IVec S64x3x512x512 32 :=
  minsi (broadcastInDim S64x3x512x512 ![] bcast_S_S64x3x512x512 (id (constantI S_ 32 63#32))) (maxsi (broadcastInDim S64x3x512x512 ![] bcast_S_S64x3x512x512 (id (constantI S_ 32 0#32)))
    (fptosi 32 (mulf (minimumf (broadcastInDim S64x3x512x512 ![] bcast_S_S64x3x512x512 (id (constant S_ .f32 0x3F800000#32)))
      (maximumf (broadcastInDim S64x3x512x512 ![] bcast_S_S64x3x512x512 (id (constant S_ .f32 0x00000000#32))) A))
      (broadcastInDim S64x3x512x512 ![] bcast_S_S64x3x512x512 (constant S_ .f32 0x42800000#32)))))

/-- each row's offset, -/
def refRow : IVec S192 32 := muli (iotaInDim S192 32 0) (broadcastInDim S192 ![] bcast_S_S192 (constantI S_ 32 64#32))

/-- each input's element of the flat histogram, -/
def refPos : IVec S50331648 32 :=
  shapeCast _ (addi (shapeCast _ (refBin A) shapeCasts_S64x3x512x512_S192x262144) (broadcastInDim S192x262144 ![0, 1] bcast_S192x1_S192x262144_0_1
    (broadcastInDim S192x1 ![0] bcast_S192_S192x1_0 refRow))) shapeCasts_S192x262144_S50331648

/-- the same kept from being negative, twice, -/
def refMax : IVec S50331648 32 := maxsi (broadcastInDim S50331648 ![] bcast_S_S50331648 (id (constantI S_ 32 0#32))) (refPos A)
def refSel : IVec S50331648 32 :=
  select (cmpi .slt (refMax A) (broadcastInDim S50331648 ![] bcast_S_S50331648 (constantI S_ 32 0#32)))
    (addi (refMax A) (broadcastInDim S50331648 ![] bcast_S_S50331648 (constantI S_ 32 12288#32))) (refMax A)

/-- the flat histogram, -/
def refCnt : IVec S12288 32 :=
  Host.scatter scatter_S12288_S50331648x1_S50331648_n_0_0_1 IntOp.addi (broadcastInDim S12288 ![] bcast_S_S12288 (constantI S_ 32 0#32))
    (broadcastInDim S50331648x1 ![0] bcast_S50331648_S50331648x1_0 (refSel A)) (broadcastInDim S50331648 ![] bcast_S_S50331648 (constantI S_ 32 1#32))

/-- row by row, as floats, -/
def refHist : FVec Ideal S192x64 .f32 := shapeCast _ (sitofp .f32 (refCnt A)) shapeCasts_S12288_S192x64

/-- each row's total, -/
def refTotal : FVec Ideal S192 .f32 := Host.reduceAdd (refHist A) (constant S_ .f32 0x00000000#32) reducesTo_S192x64_S192_d1 h_S_

/-- and the result. -/
def refOut : FVec Ideal S64x192 .f32 :=
  shapeCast _ (Host.divf (refHist A) (broadcastInDim S192x64 ![0, 1] bcast_S192x1_S192x64_0_1 (addf (broadcastInDim S192x1 ![0] bcast_S192_S192x1_0 (refTotal A))
    (broadcastInDim S192x1 ![] bcast_S_S192x1 (constant S_ .f32 0x33D6BF95#32))))) shapeCasts_S192x64_S64x192

/-- The reference's result is the last stage of the argument. -/
theorem res_eq (m : (ℓ : Loc nD τ sig) → Buf (Elt Ideal) ℓ) (c : Dev nD) :
    Cert.ReferenceIdeal.Value.res_main_v31 (F := Ideal) m c = refOut (m ((c.tc : Thread nD τ).loc main_arg0)) := by
  unfold Cert.ReferenceIdeal.Value.res_main_v31
  rfl

/-! ## Stage by stage -/

/-- The flat input by element number. -/
def flatIx (n : ℕ) : S50331648.Idx := fun | 0 => ⟨n % 50331648, Nat.mod_lt _ (by decide)⟩ | ⟨_ + 1, h⟩ => absurd h (Nat.not_lt.2 (Nat.le_add_left _ _))
def flatX (h : S64x3x512x512.ShapeCasts S50331648) (n : ℕ) : EReal := shapeCast S50331648 A h (flatIx n)

theorem refBin_at (i : S64x3x512x512.Idx) : refBin A i = binI (A i) := by
  show clampW (Ideal.fptosi 32 (min (Ideal.ofBits .f32 0x3F800000#32) (max (Ideal.ofBits .f32 0x00000000#32) (A i)) * Ideal.ofBits .f32 0x42800000#32)) = _
  rw [lit_one, lit_zero, lit_bins]
  exact binI_clip (A i)

/-- A vector of `R` broadcast to a column, at an index: its row's element. -/
theorem rowBc_at {α : Type} {R : ℕ} (hR : R ≠ 1) (h1 : (⟨1, ![R]⟩ : Shape).BroadcastsInDim ⟨2, ![R, 1]⟩ ![0])
    (x : (⟨1, ![R]⟩ : Shape).Idx → α) (j : (⟨2, ![R, 1]⟩ : Shape).Idx) (k : (⟨1, ![R]⟩ : Shape).Idx) (hk : (k 0).val = (j 0).val) :
    broadcastInDim ⟨2, ![R, 1]⟩ ![0] h1 x j = x k :=
  broadcastInDim_apply _ h1 x j k fun a => by
    match a with
    | 0 => exact hk.trans (if_neg hR).symm

/-- A column of `R` broadcast over an `R × C` matrix, at an index: its row's element. -/
theorem colBc_at {α : Type} {R C : ℕ} (hR : R ≠ 1) (h2 : (⟨2, ![R, 1]⟩ : Shape).BroadcastsInDim ⟨2, ![R, C]⟩ ![0, 1])
    (x : (⟨2, ![R, 1]⟩ : Shape).Idx → α) (j : (⟨2, ![R, C]⟩ : Shape).Idx) (k : (⟨2, ![R, 1]⟩ : Shape).Idx) (hk : (k 0).val = (j 0).val) :
    broadcastInDim ⟨2, ![R, C]⟩ ![0, 1] h2 x j = x k :=
  broadcastInDim_apply _ h2 x j k fun a => by
    match a with
    | 0 => exact hk.trans (if_neg hR).symm
    | 1 => exact (Nat.lt_one_iff.mp (k 1).isLt).trans (if_pos rfl).symm

/-- A word below 2³¹ is not negative: -/
theorem slt_zero (w : BitVec 32) (h : w.toNat < 2147483648) : w.slt 0#32 = false := by
  rw [BitVec.slt, BitVec.toInt_eq_toNat_of_lt (by omega)]
  exact decide_eq_false fun q => by change (w.toNat : Int) < 0 at q; omega

/-- the larger of zero and it is it, -/
theorem maxsi_keep (w : BitVec 32) (h : w.toNat < 2147483648) : IntOp.maxsi 0#32 w = w := by
  unfold IntOp.maxsi
  rw [slt_zero w h]
  rfl

/-- and a choice by its sign is the second. -/
theorem slt_keep (w x : BitVec 32) (h : w.toNat < 2147483648) : Scalar.select (IntOp.cmpi .slt w 0#32) x w = w := by
  have e : IntOp.cmpi .slt w 0#32 = 0#1 := by
    show BitVec.ofBool (w.slt 0#32) = _
    rw [slt_zero w h]; rfl
  rw [e]; rfl

/-- An input's element of the flat histogram: its row's sixty-four, and its bin there. -/
def posN (X : ℕ → EReal) (n : ℕ) : ℕ := 64 * (n / 262144) + bin (X n)
theorem posN_lt (X : ℕ → EReal) (n : ℕ) (hn : n < 50331648) : posN X n < 12288 := by
  have := bin_lt (X n)
  unfold posN; omega

variable (h : S64x3x512x512.ShapeCasts S50331648)

theorem flatIx_eq (j : S50331648.Idx) : flatIx (j 0).val = j := by
  funext a
  match a with
  | 0 => exact Fin.ext (Nat.mod_eq_of_lt (j 0).isLt)

theorem refPos_at (j : S50331648.Idx) : refPos A j = BitVec.ofNat 32 (posN (flatX A h) (j 0).val) := by
  have hj : (j 0).val < 50331648 := (j 0).isLt
  unfold refPos shapeCast
  generalize hk : Shape.reshapeEquiv shapeCasts_S192x262144_S50331648 j = k
  have hpos : (k 0).val * 262144 + (k 1).val = (j 0).val := by
    have e := Shape.rowMajor_reshapeEquiv shapeCasts_S192x262144_S50331648 j
    rw [hk] at e
    exact (Shape.rowMajor_val_two k).symm.trans (e.trans (Shape.rowMajor_val_one j))
  have hk1 : (k 1).val < 262144 := (k 1).isLt
  have hrow : (k 0).val = (j 0).val / 262144 := by omega
  show IntOp.addi (refBin A (Shape.reshapeEquiv shapeCasts_S64x3x512x512_S192x262144 k)) (broadcastInDim S192x262144 ![0, 1] bcast_S192x1_S192x262144_0_1
    (broadcastInDim S192x1 ![0] bcast_S192_S192x1_0 refRow) k) = _
  have ebin : A (Shape.reshapeEquiv shapeCasts_S64x3x512x512_S192x262144 k) = flatX A h (j 0).val := by
    unfold flatX shapeCast
    rw [flatIx_eq, ← hk, Shape.reshapeEquiv_reshapeEquiv]
  have erow : broadcastInDim S192x262144 ![0, 1] bcast_S192x1_S192x262144_0_1 (broadcastInDim S192x1 ![0] bcast_S192_S192x1_0 refRow) k
      = BitVec.ofNat 32 (k 0).val * 64#32 :=
    (colBc_at (R := 192) (C := 262144) (by decide) _ _ k (ix2 (k 0) 0) rfl).trans
      (rowBc_at (R := 192) (by decide) _ _ (ix2 (k 0) 0) (fun a => match a with | 0 => k 0) rfl)
  rw [refBin_at, ebin, erow, hrow]
  have hb := bin_lt (flatX A h (j 0).val)
  refine BitVec.eq_of_toNat_eq ?_
  show (binI (flatX A h (j 0).val) + BitVec.ofNat 32 ((j 0).val / 262144) * 64#32).toNat = _
  rw [BitVec.toNat_add, BitVec.toNat_mul, BitVec.toNat_ofNat, BitVec.toNat_ofNat, BitVec.toNat_ofNat]
  unfold posN bin at *
  omega

theorem refSel_at (j : S50331648.Idx) : refSel A j = BitVec.ofNat 32 (posN (flatX A h) (j 0).val) := by
  have hp := posN_lt (flatX A h) (j 0).val (j 0).isLt
  have e : refMax A j = BitVec.ofNat 32 (posN (flatX A h) (j 0).val) := by
    show IntOp.maxsi 0#32 (refPos A j) = _
    rw [refPos_at A h, maxsi_keep]
    rw [BitVec.toNat_ofNat]; omega
  show Scalar.select (IntOp.cmpi .slt (refMax A j) 0#32) _ (refMax A j) = _
  rw [slt_keep, e]
  rw [e, BitVec.toNat_ofNat]; omega

/-- The flat histogram counts each row's inputs in each bin. -/
theorem refCnt_at (q : S12288.Idx) : refCnt A q = BitVec.ofNat 32 (rowCount (flatX A h) ((q 0).val / 64) ((q 0).val % 64)) := by
  have hq : (q 0).val < 12288 := (q 0).isLt
  unfold refCnt
  refine (scatter_count (A := 12288) (N := 50331648) scatter_S12288_S50331648x1_S50331648_n_0_0_1 rfl rfl rfl _ (posN (flatX A h)) ?_ _ (fun _ => rfl) _ (fun _ => rfl) q).trans ?_
  rotate_left
  · refine congrArg (BitVec.ofNat 32) ?_
    unfold rowCount
    refine Eq.trans ?_ (sum_row (fun n => if bin (flatX A h n) = (q 0).val % 64 then 1 else 0) 262144 192 ((q 0).val / 64) (by omega))
    refine sum_congr rfl fun n _ => ?_
    have hb := bin_lt (flatX A h n)
    unfold posN
    by_cases h1 : n / 262144 = (q 0).val / 64
    · rw [if_pos h1]
      by_cases h2 : bin (flatX A h n) = (q 0).val % 64
      · rw [if_pos h2, if_pos (by omega)]
      · rw [if_neg h2, if_neg (by omega)]
    · rw [if_neg h1, if_neg (by omega)]
  · intro k
    have hp := posN_lt (flatX A h) (k 0).val (k 0).isLt
    have e : broadcastInDim S50331648x1 ![0] bcast_S50331648_S50331648x1_0 (refSel A) (colIx k) = refSel A k :=
      rowBc_at (R := 50331648) (by decide) _ _ (colIx k) k rfl
    rw [e, refSel_at A h, BitVec.toInt_eq_toNat_of_lt, BitVec.toNat_ofNat, Nat.mod_eq_of_lt (by omega)]
    rw [BitVec.toNat_ofNat]; omega

/-- A row has no more inputs in a bin than inputs, -/
theorem rowCount_le (X : ℕ → EReal) (r b : ℕ) : rowCount X r b ≤ 262144 := by
  unfold rowCount
  refine (sum_le_sum fun p _ => (show (if bin (X (262144 * r + p)) = b then 1 else 0) ≤ 1 by split <;> omega)).trans ?_
  rw [sum_const, card_range]; exact Nat.le_refl _

/-- and every input in one bin. -/
theorem sum_rowCount (X : ℕ → EReal) (r : ℕ) : ∑ b ∈ range 64, rowCount X r b = 262144 := by
  unfold rowCount
  rw [sum_comm]
  rw [sum_congr rfl fun p _ => (sum_ite_eq (range 64) (bin (X (262144 * r + p))) fun _ => 1).trans
    (if_pos (mem_range.mpr (bin_lt _)))]
  rw [sum_const, card_range]; rfl

/-- Row by row the histogram is the counts, -/
theorem refHist_at (y : S192x64.Idx) : (refHist A y : EReal) = cnt (rowCount (flatX A h) (y 0).val (y 1).val) := by
  unfold refHist shapeCast
  generalize hk : Shape.reshapeEquiv shapeCasts_S12288_S192x64 y = q
  have hpos : (q 0).val = (y 0).val * 64 + (y 1).val := by
    have e := Shape.rowMajor_reshapeEquiv shapeCasts_S12288_S192x64 y
    rw [hk] at e
    exact (Shape.rowMajor_val_one q).symm.trans (e.trans (Shape.rowMajor_val_two y))
  have hy1 : (y 1).val < 64 := (y 1).isLt
  show (((refCnt A q).toInt : ℝ) : EReal) = _
  have hle := rowCount_le (flatX A h) (y 0).val (y 1).val
  rw [refCnt_at A h, show (q 0).val / 64 = (y 0).val by omega, show (q 0).val % 64 = (y 1).val by omega,
    BitVec.toInt_eq_toNat_of_lt (by rw [BitVec.toNat_ofNat]; omega), BitVec.toNat_ofNat, Nat.mod_eq_of_lt (by omega)]
  rfl

/-- A sum of counts is the count of the sum. -/
theorem sum_cnt (n : ℕ) (f : ℕ → ℕ) : ∑ k : Fin n, cnt (f k.val) = cnt (∑ k ∈ range n, f k) := by
  rw [Fin.sum_univ_eq_sum_range (fun k => cnt (f k))]
  induction n with
  | zero => simp [cnt]
  | succ n ih => rw [sum_range_succ, sum_range_succ, ih, cnt_add]

include h in
/-- and a row's total is its length. -/
theorem refTotal_at (j : S192.Idx) : (refTotal A j : EReal) = cnt 262144 := by
  unfold refTotal
  rw [Host.reduceAdd_apply, Ideal.hostReduceAdd_def, Ideal.hostReduceAdd_r2_a1]
  show Ideal.ofBits .f32 0x00000000#32 + _ = _
  rw [lit_zero, zero_add]
  refine (sum_congr rfl fun k _ => refHist_at A h _).trans ?_
  refine (sum_cnt 64 fun k => rowCount (flatX A h) (j 0).val k).trans ?_
  rw [sum_rowCount]

/-- The reference's result at an index: the count of its row and bin, times the exact reciprocal. -/
theorem refOut_at (i : S64x192.Idx) :
    (refOut A i : EReal) = cnt (rowCount (flatX A h) ((192 * (i 0).val + (i 1).val) / 64) ((192 * (i 0).val + (i 1).val) % 64))
      * ((140737488355328 / 36893488147433176981 : ℝ) : EReal) := by
  unfold refOut shapeCast
  generalize hk : Shape.reshapeEquiv shapeCasts_S192x64_S64x192 i = y
  have hpos : (y 0).val * 64 + (y 1).val = (i 0).val * 192 + (i 1).val := by
    have e := Shape.rowMajor_reshapeEquiv shapeCasts_S192x64_S64x192 i
    rw [hk] at e
    exact (Shape.rowMajor_val_two y).symm.trans (e.trans (Shape.rowMajor_val_two i))
  have hy1 : (y 1).val < 64 := (y 1).isLt
  have hden : (broadcastInDim S192x64 ![0, 1] bcast_S192x1_S192x64_0_1 (addf (broadcastInDim S192x1 ![0] bcast_S192_S192x1_0 (refTotal A))
      (broadcastInDim S192x1 ![] bcast_S_S192x1 (constant S_ .f32 0x33D6BF95#32))) y : EReal)
      = ((36893488147433176981 / 140737488355328 : ℝ) : EReal) := by
    refine (colBc_at (R := 192) (C := 64) (by decide) _ _ y (ix2 (y 0) 0) rfl).trans ?_
    show (broadcastInDim S192x1 ![0] bcast_S192_S192x1_0 (refTotal A) (ix2 (y 0) 0) : EReal) + Ideal.ofBits .f32 0x33D6BF95#32 = _
    rw [lit_eps]
    have e : (broadcastInDim S192x1 ![0] bcast_S192_S192x1_0 (refTotal A) (ix2 (y 0) 0) : EReal) = cnt 262144 :=
      (rowBc_at (R := 192) (by decide) _ _ (ix2 (y 0) 0) (fun a => match a with | 0 => y 0) rfl).trans (refTotal_at A h _)
    rw [e]
    unfold cnt
    rw [← EReal.coe_add]
    norm_num
  show Ideal.div (refHist A y) _ = _
  rw [hden, refHist_at A h, Ideal.div_coe (show (36893488147433176981 / 140737488355328 : ℝ) ≠ 0 by norm_num), show (192 * (i 0).val + (i 1).val) / 64 = (y 0).val by omega,
    show (192 * (i 0).val + (i 1).val) % 64 = (y 1).val by omega]
  norm_num

end Cert.Proof.Value

end
-- ==== Proof.lean ====
/-
  The claim: the kernel and its idealization run, end with the argument as it was and every semaphore at zero; so does
  the reference; the one named constant is what the certificate says; and the idealized kernel and the reference compute
  equal results.
-/
module

public import proofs.«01_k».proof.Defs
public import proofs.«01_k».proof.Proof.Kernel.Launch
public import proofs.«01_k».proof.Proof.KernelIdeal.Launch
public import proofs.«01_k».proof.Proof.Gen.ReferenceIdeal
public import proofs.«01_k».proof.Proof.Gen.ReferenceIdeal.Run
public import proofs.«01_k».proof.Proof.Value.Reference
public import Idealize.ShloMosaic.Lib.Claim

@[expose] public section

noncomputable section

namespace Cert.Proof

open Idealize.ShloMosaic Idealize.SL.Sem

/-- The kernel's run, its values dropped. -/
theorem frame_p : Cert.quiescent_Kernel (hKernel := Cert.Kernel.Gen.facts) := fun m g _ =>
  (θ_run Cert.Kernel.defs _ _).mono (fun _ h => ⟨fun c => (h.1 c).1, h.2⟩) (Kernel.run_main (F := Bits) m g)

/-- The idealized kernel's run, its values dropped. -/
theorem frame_pi : Cert.quiescent_KernelIdeal (hKernelIdeal := Cert.KernelIdeal.Gen.facts) := fun m g _ =>
  (θ_run Cert.KernelIdeal.defs _ _).mono (fun _ h => ⟨fun c => (h.1 c).1, h.2⟩) (KernelIdeal.run_main (F := Ideal) m g)

/-- The reference's run, its values dropped; it has no semaphore. -/
theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is the certificate's value of it. -/
theorem preserves : Cert.preserves_Kernel_KernelIdeal := IdealRules.named_const.statement _ _ _ _ _ rfl

/-- The kernel's result, at each index, is the reference's of the same argument: both are the count of the index's row and
    bin, times the same number. -/
theorem result_eq (m : (ℓ : Loc Cert.KernelIdeal.nD Cert.KernelIdeal.τ Cert.KernelIdeal.sig) → Buf (Elt Ideal) ℓ) (c : Dev Cert.KernelIdeal.nD) :
    KernelIdeal.resOf (F := Ideal) m c = Value.refOut (m (c.tc.loc Cert.KernelIdeal.main_arg0)) := by
  funext i
  refine Eq.trans ?_ (Value.refOut_at (m (c.tc.loc Cert.KernelIdeal.main_arg0)) Cert.KernelIdeal.Gen.shapeCasts_S64x3x512x512_S50331648 i).symm
  unfold KernelIdeal.resOf shapeCast
  generalize hk : Shape.reshapeEquiv Cert.KernelIdeal.Gen.shapeCasts_S12288_S64x192 i = q
  have hpos : (q 0).val = 192 * (i 0).val + (i 1).val := by
    have e := Shape.rowMajor_reshapeEquiv Cert.KernelIdeal.Gen.shapeCasts_S12288_S64x192 i
    rw [hk] at e
    exact (Shape.rowMajor_val_one q).symm.trans ((e.trans (Shape.rowMajor_val_two i)).trans (congrArg (· + (i 1).val) (Nat.mul_comm _ 192)))
  unfold KernelIdeal.outOf
  rw [hpos]
  exact Value.outVal_eq (KernelIdeal.XOf m c) _ _ (Nat.mod_lt _ (by decide))

/-- The idealized kernel's result is the reference's. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => KernelIdeal.resOf (F := Ideal) m c,
    (θ_run Cert.KernelIdeal.defs _ _).mono (fun _ h c => ⟨(h.1 c).2, (h.1 c).1⟩) (KernelIdeal.run_main (F := Ideal) m g),
    (θ_run Cert.ReferenceIdeal.defs _ _).mono (fun _ h c => ⟨(h c).1.trans ?_, (h c).2⟩) (Cert.ReferenceIdeal.Value.run (F := Ideal) m' g')⟩
  rw [Value.res_eq, hagree c]
  exact (result_eq m c).symm

theorem claim : Cert.Claim :=
  ⟨Cert.Kernel.Gen.facts, Cert.KernelIdeal.Gen.facts, Cert.ReferenceIdeal.Gen.facts, frame_p, frame_pi, frame_ri, preserves, algebraic⟩

end Cert.Proof

end
